-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v86_3)) (v3 : (c : Dev Cert.KernelIdeal.nD) → Buf (Elt Ideal) ((c.tc : Thread Cert.KernelIdeal.nD Cert.KernelIdeal.τ).loc Cert.KernelIdeal.main_v95)) (v4 : (c : Dev Cert.KernelIdeal.nD) → Buf (Elt Ideal) ((c.tc : Thread Cert.KernelIdeal.nD Cert.KernelIdeal.τ).loc Cert.KernelIdeal.main_v99)) (v5 : (c : Dev Cert.KernelIdeal.nD) → Buf (Elt Ideal) ((c.tc : Thread Cert.KernelIdeal.nD Cert.KernelIdeal.τ).loc Cert.KernelIdeal.main_v103)) (v6 : (c : Dev Cert.KernelIdeal.nD) → Buf (Elt Ideal) ((c.tc : Thread Cert.KernelIdeal.nD Cert.KernelIdeal.τ).loc Cert.KernelIdeal.main_v104)) (v7 : (c : Dev Cert.KernelIdeal.nD) → Buf (Elt Ideal) ((c.tc : Thread Cert.KernelIdeal.nD Cert.KernelIdeal.τ).loc Cert.KernelIdeal.main_v48)) (v8 : (c : Dev Cert.KernelIdeal.nD) → Buf (Elt Ideal) ((c.tc : Thread Cert.KernelIdeal.nD Cert.KernelIdeal.τ).loc Cert.KernelIdeal.main_v86_1)) (v9 : (c : Dev Cert.KernelIdeal.nD) → Buf (Elt Ideal) ((c.tc : Thread Cert.KernelIdeal.nD Cert.KernelIdeal.τ).loc Cert.KernelIdeal.main_v53)) (v10 : (c : Dev Cert.KernelIdeal.nD) → Buf (Elt Ideal) ((c.tc : Thread Cert.KernelIdeal.nD Cert.KernelIdeal.τ).loc Cert.KernelIdeal.main_v105)) (v11 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v86_3) = v2 c
          ∧ r.2.mem ((c.tc : Thread Cert.KernelIdeal.nD Cert.KernelIdeal.τ).loc Cert.KernelIdeal.main_v95) = v3 c
          ∧ r.2.mem ((c.tc : Thread Cert.KernelIdeal.nD Cert.KernelIdeal.τ).loc Cert.KernelIdeal.main_v99) = v4 c
          ∧ r.2.mem ((c.tc : Thread Cert.KernelIdeal.nD Cert.KernelIdeal.τ).loc Cert.KernelIdeal.main_v103) = v5 c
          ∧ r.2.mem ((c.tc : Thread Cert.KernelIdeal.nD Cert.KernelIdeal.τ).loc Cert.KernelIdeal.main_v104) = v6 c
          ∧ r.2.mem ((c.tc : Thread Cert.KernelIdeal.nD Cert.KernelIdeal.τ).loc Cert.KernelIdeal.main_v48) = v7 c
          ∧ r.2.mem ((c.tc : Thread Cert.KernelIdeal.nD Cert.KernelIdeal.τ).loc Cert.KernelIdeal.main_v86_1) = v8 c
          ∧ r.2.mem ((c.tc : Thread Cert.KernelIdeal.nD Cert.KernelIdeal.τ).loc Cert.KernelIdeal.main_v53) = v9 c
          ∧ r.2.mem ((c.tc : Thread Cert.KernelIdeal.nD Cert.KernelIdeal.τ).loc Cert.KernelIdeal.main_v105) = v10 c
          ∧ r.2.mem ((c.tc : Thread Cert.KernelIdeal.nD Cert.KernelIdeal.τ).loc Cert.KernelIdeal.main_v58) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101_0) = v0 c
          ∧ r.2.mem ((c.tc : Thread Cert.ReferenceIdeal.nD Cert.ReferenceIdeal.τ).loc Cert.ReferenceIdeal.main_v101_1) = v1 c
          ∧ r.2.mem ((c.tc : Thread Cert.ReferenceIdeal.nD Cert.ReferenceIdeal.τ).loc Cert.ReferenceIdeal.main_v101_2) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_v101_3) = v6 c
          ∧ r.2.mem ((c.tc : Thread Cert.ReferenceIdeal.nD Cert.ReferenceIdeal.τ).loc Cert.ReferenceIdeal.main_v18) = v7 c
          ∧ r.2.mem ((c.tc : Thread Cert.ReferenceIdeal.nD Cert.ReferenceIdeal.τ).loc Cert.ReferenceIdeal.main_v101_4) = v8 c
          ∧ r.2.mem ((c.tc : Thread Cert.ReferenceIdeal.nD Cert.ReferenceIdeal.τ).loc Cert.ReferenceIdeal.main_v43) = v9 c
          ∧ r.2.mem ((c.tc : Thread Cert.ReferenceIdeal.nD Cert.ReferenceIdeal.τ).loc Cert.ReferenceIdeal.main_v101_5) = v10 c
          ∧ r.2.mem ((c.tc : Thread Cert.ReferenceIdeal.nD Cert.ReferenceIdeal.τ).loc Cert.ReferenceIdeal.main_v68) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x7936 : Shape := ⟨3, ![6, 1024, 7936]⟩
abbrev S7936x1280 : Shape := ⟨2, ![7936, 1280]⟩
abbrev S6x1024x1280 : Shape := ⟨3, ![6, 1024, 1280]⟩
abbrev S16 : Shape := ⟨1, ![16]⟩
abbrev S277 : Shape := ⟨1, ![277]⟩
abbrev S278 : Shape := ⟨1, ![278]⟩
abbrev S6144x7936 : Shape := ⟨2, ![6144, 7936]⟩
abbrev S6144x1280 : Shape := ⟨2, ![6144, 1280]⟩
abbrev S_ : Shape := ⟨0, ![]⟩
abbrev S1 : Shape := ⟨1, ![1]⟩
abbrev S8x1280 : Shape := ⟨2, ![8, 1280]⟩
abbrev S1024x1280 : Shape := ⟨2, ![1024, 1280]⟩
abbrev S128x8x1280 : Shape := ⟨3, ![128, 8, 1280]⟩
abbrev S4 : Shape := ⟨1, ![4]⟩
abbrev S768x8x7936 : Shape := ⟨3, ![768, 8, 7936]⟩
abbrev S8x256 : Shape := ⟨2, ![8, 256]⟩
abbrev S6144x256 : Shape := ⟨2, ![6144, 256]⟩
abbrev S256x1280 : Shape := ⟨2, ![256, 1280]⟩
abbrev S768x8x256 : Shape := ⟨3, ![768, 8, 256]⟩
abbrev S32x8x1280 : Shape := ⟨3, ![32, 8, 1280]⟩
abbrev S512x256 : Shape := ⟨2, ![512, 256]⟩
abbrev S64x8x256 : Shape := ⟨3, ![64, 8, 256]⟩
abbrev S512x1280 : Shape := ⟨2, ![512, 1280]⟩
abbrev S768x8x1280 : Shape := ⟨3, ![768, 8, 1280]⟩
abbrev S512x7936 : Shape := ⟨2, ![512, 7936]⟩
abbrev S64x8x1280 : Shape := ⟨3, ![64, 8, 1280]⟩
abbrev S15 : Shape := ⟨1, ![15]⟩

abbrev nBuf : Space → Nat
  | .hbm => 187
  | .vmem => 25
  | .smem => 3
  | _ => 0

abbrev hbmTy0_0 (i : Nat) : BufTy := match i % 128 with
  | 0 => ⟨S6x1024x7936, .bf16⟩
  | 1 => ⟨S7936x1280, .f32⟩
  | 2 => ⟨S6x1024x1280, .bf16⟩
  | 3 => ⟨S16, .f32⟩
  | 4 => ⟨S16, .f32⟩
  | 5 => ⟨S16, .f32⟩
  | 6 => ⟨S277, .f32⟩
  | 7 => ⟨S278, .i32⟩
  | 8 => ⟨S278, .f32⟩
  | 9 => ⟨S6144x7936, .bf16⟩
  | 10 => ⟨S6144x1280, .bf16⟩
  | 11 => ⟨S_, .f32⟩
  | 12 => ⟨S_, .f32⟩
  | 13 => ⟨S_, .f32⟩
  | 14 => ⟨S_, .f32⟩
  | 15 => ⟨S_, .f32⟩
  | 16 => ⟨S277, .f32⟩
  | 17 => ⟨S277, .i1⟩
  | 18 => ⟨S277, .i32⟩
  | 19 => ⟨S_, .i32⟩
  | 20 => ⟨S_, .i32⟩
  | 21 => ⟨S_, .f32⟩
  | 22 => ⟨S_, .i1⟩
  | 23 => ⟨S_, .f32⟩
  | 24 => ⟨S_, .i1⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .f32⟩
  | 32 => ⟨S_, .i1⟩
  | 33 => ⟨S_, .i32⟩
  | 34 => ⟨S_, .i32⟩
  | 35 => ⟨S_, .i32⟩
  | 36 => ⟨S_, .f32⟩
  | 37 => ⟨S_, .f32⟩
  | 38 => ⟨S_, .f32⟩
  | 39 => ⟨S_, .f32⟩
  | 40 => ⟨S_, .f32⟩
  | 41 => ⟨S277, .f32⟩
  | 42 => ⟨S277, .i1⟩
  | 43 => ⟨S277, .i32⟩
  | 44 => ⟨S_, .i32⟩
  | 45 => ⟨S_, .i32⟩
  | 46 => ⟨S_, .f32⟩
  | 47 => ⟨S_, .i1⟩
  | 48 => ⟨S_, .f32⟩
  | 49 => ⟨S_, .i1⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .f32⟩
  | 57 => ⟨S_, .i1⟩
  | 58 => ⟨S_, .i32⟩
  | 59 => ⟨S_, .i32⟩
  | 60 => ⟨S_, .i32⟩
  | 61 => ⟨S_, .f32⟩
  | 62 => ⟨S_, .f32⟩
  | 63 => ⟨S_, .f32⟩
  | 64 => ⟨S_, .f32⟩
  | 65 => ⟨S_, .f32⟩
  | 66 => ⟨S277, .f32⟩
  | 67 => ⟨S277, .i1⟩
  | 68 => ⟨S277, .i32⟩
  | 69 => ⟨S_, .i32⟩
  | 70 => ⟨S_, .i32⟩
  | 71 => ⟨S_, .f32⟩
  | 72 => ⟨S_, .i1⟩
  | 73 => ⟨S_, .f32⟩
  | 74 => ⟨S_, .i1⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .f32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S278, .i32⟩
  | 89 => ⟨S278, .i1⟩
  | 90 => ⟨S_, .f32⟩
  | 91 => ⟨S_, .f32⟩
  | 92 => ⟨S278, .f32⟩
  | 93 => ⟨S278, .f32⟩
  | 94 => ⟨S_, .f32⟩
  | 95 => ⟨S_, .f32⟩
  | 96 => ⟨S_, .i32⟩
  | 97 => ⟨S_, .i32⟩
  | 98 => ⟨S278, .i32⟩
  | 99 => ⟨S278, .i1⟩
  | 100 => ⟨S_, .f32⟩
  | 101 => ⟨S_, .f32⟩
  | 102 => ⟨S278, .f32⟩
  | 103 => ⟨S278, .f32⟩
  | 104 => ⟨S_, .f32⟩
  | 105 => ⟨S_, .f32⟩
  | 106 => ⟨S_, .i32⟩
  | 107 => ⟨S_, .i32⟩
  | 108 => ⟨S278, .i32⟩
  | 109 => ⟨S278, .i1⟩
  | 110 => ⟨S_, .f32⟩
  | 111 => ⟨S_, .f32⟩
  | 112 => ⟨S278, .f32⟩
  | 113 => ⟨S278, .f32⟩
  | 114 => ⟨S_, .f32⟩
  | 115 => ⟨S_, .f32⟩
  | 116 => ⟨S_, .i32⟩
  | 117 => ⟨S_, .i32⟩
  | 118 => ⟨S_, .i32⟩
  | 119 => ⟨S278, .i32⟩
  | 120 => ⟨S278, .i1⟩
  | 121 => ⟨S_, .f32⟩
  | 122 => ⟨S_, .f32⟩
  | 123 => ⟨S278, .f32⟩
  | 124 => ⟨S278, .f32⟩
  | 125 => ⟨S_, .f32⟩
  | 126 => ⟨S_, .f32⟩
  | 127 => ⟨S_, .i32⟩
  | _ => ⟨S6x1024x7936, .bf16⟩

abbrev hbmTy0_1 (i : Nat) : BufTy := match i % 128 with
  | 0 => ⟨S_, .i32⟩
  | 1 => ⟨S_, .i32⟩
  | 2 => ⟨S278, .i32⟩
  | 3 => ⟨S278, .i1⟩
  | 4 => ⟨S_, .f32⟩
  | 5 => ⟨S_, .f32⟩
  | 6 => ⟨S278, .f32⟩
  | 7 => ⟨S278, .f32⟩
  | 8 => ⟨S_, .f32⟩
  | 9 => ⟨S_, .f32⟩
  | 10 => ⟨S_, .i32⟩
  | 11 => ⟨S_, .i32⟩
  | 12 => ⟨S_, .i32⟩
  | 13 => ⟨S278, .i32⟩
  | 14 => ⟨S278, .i1⟩
  | 15 => ⟨S_, .f32⟩
  | 16 => ⟨S_, .f32⟩
  | 17 => ⟨S278, .f32⟩
  | 18 => ⟨S278, .f32⟩
  | 19 => ⟨S_, .f32⟩
  | 20 => ⟨S_, .f32⟩
  | 21 => ⟨S1, .f32⟩
  | 22 => ⟨S6144x1280, .fp8e5m2⟩
  | 23 => ⟨S8x1280, .f32⟩
  | 24 => ⟨S_, .f32⟩
  | 25 => ⟨S_, .f32⟩
  | 26 => ⟨S1, .f32⟩
  | 27 => ⟨S1, .f32⟩
  | 28 => ⟨S1, .f32⟩
  | 29 => ⟨S1, .f32⟩
  | 30 => ⟨S4, .f32⟩
  | 31 => ⟨S6144x7936, .fp8e4m3⟩
  | 32 => ⟨S7936x1280, .fp8e4m3⟩
  | 33 => ⟨S768x8x7936, .bf16⟩
  | 34 => ⟨S7936x1280, .f32⟩
  | 35 => ⟨S8x256, .f32⟩
  | 36 => ⟨S8x1280, .f32⟩
  | 37 => ⟨S_, .f32⟩
  | 38 => ⟨S1, .f32⟩
  | 39 => ⟨S768x8x1280, .bf16⟩
  | 40 => ⟨S6x1024x1280, .bf16⟩
  | 41 => ⟨S6x1024x7936, .bf16⟩
  | 42 => ⟨S15, .f32⟩
  | 43 => ⟨S_, .f32⟩
  | 44 => ⟨S_, .f32⟩
  | 45 => ⟨S1, .f32⟩
  | 46 => ⟨S16, .f32⟩
  | 47 => ⟨S15, .f32⟩
  | 48 => ⟨S_, .f32⟩
  | 49 => ⟨S_, .f32⟩
  | 50 => ⟨S1, .f32⟩
  | 51 => ⟨S16, .f32⟩
  | 52 => ⟨S15, .f32⟩
  | 53 => ⟨S_, .f32⟩
  | 54 => ⟨S_, .f32⟩
  | 55 => ⟨S1, .f32⟩
  | 56 => ⟨S16, .f32⟩
  | 57 => ⟨S6x1024x7936, .fp8e4m3⟩
  | 58 => ⟨S6x1024x1280, .fp8e5m2⟩
  | _ => ⟨S6x1024x7936, .bf16⟩

abbrev hbmTy (i : Nat) : BufTy := match i / 128 with
  | 0 => hbmTy0_0 i
  | 1 => hbmTy0_1 i
  | _ => ⟨S6x1024x7936, .bf16⟩

abbrev bufTy : (tb : Table) → Fin (tcTables nBuf tb) → BufTy
  | .hbm, ⟨i, _⟩ => hbmTy i
  | .local _ .vmem, ⟨0, _⟩ => ⟨S1024x1280, .bf16⟩
  | .local _ .vmem, ⟨1, _⟩ => ⟨S1024x1280, .bf16⟩
  | .local _ .vmem, ⟨2, _⟩ => ⟨S1024x1280, .fp8e5m2⟩
  | .local _ .vmem, ⟨3, _⟩ => ⟨S1024x1280, .fp8e5m2⟩
  | .local _ .vmem, ⟨4, _⟩ => ⟨S8x1280, .f32⟩
  | .local _ .vmem, ⟨5, _⟩ => ⟨S6144x256, .bf16⟩
  | .local _ .vmem, ⟨6, _⟩ => ⟨S6144x256, .bf16⟩
  | .local _ .vmem, ⟨7, _⟩ => ⟨S256x1280, .f32⟩
  | .local _ .vmem, ⟨8, _⟩ => ⟨S256x1280, .f32⟩
  | .local _ .vmem, ⟨9, _⟩ => ⟨S6144x1280, .fp8e5m2⟩
  | .local _ .vmem, ⟨10, _⟩ => ⟨S6144x256, .fp8e4m3⟩
  | .local _ .vmem, ⟨11, _⟩ => ⟨S6144x256, .fp8e4m3⟩
  | .local _ .vmem, ⟨12, _⟩ => ⟨S256x1280, .fp8e4m3⟩
  | .local _ .vmem, ⟨13, _⟩ => ⟨S256x1280, .fp8e4m3⟩
  | .local _ .vmem, ⟨14, _⟩ => ⟨S768x8x256, .bf16⟩
  | .local _ .vmem, ⟨15, _⟩ => ⟨S768x8x256, .bf16⟩
  | .local _ .vmem, ⟨16, _⟩ => ⟨S256x1280, .f32⟩
  | .local _ .vmem, ⟨17, _⟩ => ⟨S256x1280, .f32⟩
  | .local _ .vmem, ⟨18, _⟩ => ⟨S8x256, .f32⟩
  | .local _ .vmem, ⟨19, _⟩ => ⟨S8x1280, .f32⟩
  | .local _ .vmem, ⟨20, _⟩ => ⟨S512x7936, .fp8e4m3⟩
  | .local _ .vmem, ⟨21, _⟩ => ⟨S512x7936, .fp8e4m3⟩
  | .local _ .vmem, ⟨22, _⟩ => ⟨S7936x1280, .fp8e4m3⟩
  | .local _ .vmem, ⟨23, _⟩ => ⟨S64x8x1280, .bf16⟩
  | .local _ .vmem, ⟨24, _⟩ => ⟨S64x8x1280, .bf16⟩
  | .local _ .smem, ⟨0, _⟩ => ⟨S1, .f32⟩
  | .local _ .smem, ⟨1, _⟩ => ⟨S4, .f32⟩
  | .local _ .smem, ⟨2, _⟩ => ⟨S1, .f32⟩
  | _, _ => ⟨S6x1024x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_v11 : Ref sig .tc := ⟨.hbm, 25, rfl⟩
abbrev main_c_6 : Ref sig .tc := ⟨.hbm, 26, rfl⟩
abbrev main_v12 : Ref sig .tc := ⟨.hbm, 27, rfl⟩
abbrev main_c_7 : Ref sig .tc := ⟨.hbm, 28, rfl⟩
abbrev main_call0_v0 : Ref sig .tc := ⟨.hbm, 29, rfl⟩
abbrev main_v13 : Ref sig .tc := ⟨.hbm, 30, rfl⟩
abbrev main_cst_8 : Ref sig .tc := ⟨.hbm, 31, rfl⟩
abbrev main_v14 : Ref sig .tc := ⟨.hbm, 32, rfl⟩
abbrev main_c_9 : Ref sig .tc := ⟨.hbm, 33, rfl⟩
abbrev main_call1_v0 : Ref sig .tc := ⟨.hbm, 34, rfl⟩
abbrev main_v15 : Ref sig .tc := ⟨.hbm, 35, rfl⟩
abbrev main_cst_10 : Ref sig .tc := ⟨.hbm, 36, rfl⟩
abbrev main_v16 : Ref sig .tc := ⟨.hbm, 37, rfl⟩
abbrev main_cst_11 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_12 : Ref sig .tc := ⟨.hbm, 44, rfl⟩
abbrev main_v22 : Ref sig .tc := ⟨.hbm, 45, rfl⟩
abbrev main_cst_13 : Ref sig .tc := ⟨.hbm, 46, rfl⟩
abbrev main_v23 : Ref sig .tc := ⟨.hbm, 47, rfl⟩
abbrev main_cst_14 : Ref sig .tc := ⟨.hbm, 48, rfl⟩
abbrev main_v24 : Ref sig .tc := ⟨.hbm, 49, rfl⟩
abbrev main_v25 : Ref sig .tc := ⟨.hbm, 50, rfl⟩
abbrev main_c_15 : Ref sig .tc := ⟨.hbm, 51, rfl⟩
abbrev main_v26 : Ref sig .tc := ⟨.hbm, 52, rfl⟩
abbrev main_c_16 : Ref sig .tc := ⟨.hbm, 53, rfl⟩
abbrev main_call2_v0 : Ref sig .tc := ⟨.hbm, 54, rfl⟩
abbrev main_v27 : Ref sig .tc := ⟨.hbm, 55, rfl⟩
abbrev main_cst_17 : Ref sig .tc := ⟨.hbm, 56, rfl⟩
abbrev main_v28 : Ref sig .tc := ⟨.hbm, 57, rfl⟩
abbrev main_c_18 : Ref sig .tc := ⟨.hbm, 58, rfl⟩
abbrev main_call3_v0 : Ref sig .tc := ⟨.hbm, 59, rfl⟩
abbrev main_v29 : Ref sig .tc := ⟨.hbm, 60, rfl⟩
abbrev main_cst_19 : Ref sig .tc := ⟨.hbm, 61, rfl⟩
abbrev main_v30 : Ref sig .tc := ⟨.hbm, 62, rfl⟩
abbrev main_cst_20 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_21 : Ref sig .tc := ⟨.hbm, 69, rfl⟩
abbrev main_v36 : Ref sig .tc := ⟨.hbm, 70, rfl⟩
abbrev main_cst_22 : Ref sig .tc := ⟨.hbm, 71, rfl⟩
abbrev main_v37 : Ref sig .tc := ⟨.hbm, 72, rfl⟩
abbrev main_cst_23 : Ref sig .tc := ⟨.hbm, 73, rfl⟩
abbrev main_v38 : Ref sig .tc := ⟨.hbm, 74, rfl⟩
abbrev main_v39 : Ref sig .tc := ⟨.hbm, 75, rfl⟩
abbrev main_c_24 : Ref sig .tc := ⟨.hbm, 76, rfl⟩
abbrev main_v40 : Ref sig .tc := ⟨.hbm, 77, rfl⟩
abbrev main_c_25 : Ref sig .tc := ⟨.hbm, 78, rfl⟩
abbrev main_call4_v0 : Ref sig .tc := ⟨.hbm, 79, rfl⟩
abbrev main_v41 : Ref sig .tc := ⟨.hbm, 80, rfl⟩
abbrev main_cst_26 : Ref sig .tc := ⟨.hbm, 81, rfl⟩
abbrev main_v42 : Ref sig .tc := ⟨.hbm, 82, rfl⟩
abbrev main_c_27 : Ref sig .tc := ⟨.hbm, 83, rfl⟩
abbrev main_call5_v0 : Ref sig .tc := ⟨.hbm, 84, rfl⟩
abbrev main_v43 : Ref sig .tc := ⟨.hbm, 85, rfl⟩
abbrev main_c_28 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_29 : Ref sig .tc := ⟨.hbm, 90, rfl⟩
abbrev main_call6_v0 : Ref sig .tc := ⟨.hbm, 91, rfl⟩
abbrev main_call6_v1 : Ref sig .tc := ⟨.hbm, 92, rfl⟩
abbrev main_v47 : Ref sig .tc := ⟨.hbm, 93, rfl⟩
abbrev main_cst_30 : Ref sig .tc := ⟨.hbm, 94, rfl⟩
abbrev main_v48 : Ref sig .tc := ⟨.hbm, 95, rfl⟩
abbrev main_c_31 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_cst_32 : Ref sig .tc := ⟨.hbm, 100, rfl⟩
abbrev main_call7_v0 : Ref sig .tc := ⟨.hbm, 101, rfl⟩
abbrev main_call7_v1 : Ref sig .tc := ⟨.hbm, 102, rfl⟩
abbrev main_v52 : Ref sig .tc := ⟨.hbm, 103, rfl⟩
abbrev main_cst_33 : Ref sig .tc := ⟨.hbm, 104, rfl⟩
abbrev main_v53 : Ref sig .tc := ⟨.hbm, 105, rfl⟩
abbrev main_c_34 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_35 : Ref sig .tc := ⟨.hbm, 110, rfl⟩
abbrev main_call8_v0 : Ref sig .tc := ⟨.hbm, 111, rfl⟩
abbrev main_call8_v1 : Ref sig .tc := ⟨.hbm, 112, rfl⟩
abbrev main_v57 : Ref sig .tc := ⟨.hbm, 113, rfl⟩
abbrev main_cst_36 : Ref sig .tc := ⟨.hbm, 114, rfl⟩
abbrev main_v58 : Ref sig .tc := ⟨.hbm, 115, rfl⟩
abbrev main_v59 : Ref sig .tc := ⟨.hbm, 116, rfl⟩
abbrev main_c_37 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_38 : Ref sig .tc := ⟨.hbm, 121, rfl⟩
abbrev main_call9_v0 : Ref sig .tc := ⟨.hbm, 122, rfl⟩
abbrev main_call9_v1 : Ref sig .tc := ⟨.hbm, 123, rfl⟩
abbrev main_v63 : Ref sig .tc := ⟨.hbm, 124, rfl⟩
abbrev main_cst_39 : Ref sig .tc := ⟨.hbm, 125, rfl⟩
abbrev main_v64 : Ref sig .tc := ⟨.hbm, 126, rfl⟩
abbrev main_v65 : Ref sig .tc := ⟨.hbm, 127, rfl⟩
abbrev main_c_40 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_cst_41 : Ref sig .tc := ⟨.hbm, 132, rfl⟩
abbrev main_call10_v0 : Ref sig .tc := ⟨.hbm, 133, rfl⟩
abbrev main_call10_v1 : Ref sig .tc := ⟨.hbm, 134, rfl⟩
abbrev main_v69 : Ref sig .tc := ⟨.hbm, 135, rfl⟩
abbrev main_cst_42 : Ref sig .tc := ⟨.hbm, 136, rfl⟩
abbrev main_v70 : Ref sig .tc := ⟨.hbm, 137, rfl⟩
abbrev main_v71 : Ref sig .tc := ⟨.hbm, 138, rfl⟩
abbrev main_c_43 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_44 : Ref sig .tc := ⟨.hbm, 143, rfl⟩
abbrev main_call11_v0 : Ref sig .tc := ⟨.hbm, 144, rfl⟩
abbrev main_call11_v1 : Ref sig .tc := ⟨.hbm, 145, rfl⟩
abbrev main_v75 : Ref sig .tc := ⟨.hbm, 146, rfl⟩
abbrev main_cst_45 : Ref sig .tc := ⟨.hbm, 147, rfl⟩
abbrev main_v76 : Ref sig .tc := ⟨.hbm, 148, rfl⟩
abbrev main_v77 : Ref sig .tc := ⟨.hbm, 149, rfl⟩
abbrev main_v78_0 : Ref sig .tc := ⟨.hbm, 150, rfl⟩
abbrev main_v78_1 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86_0 : Ref sig .tc := ⟨.hbm, 159, rfl⟩
abbrev main_v86_1 : Ref sig .tc := ⟨.hbm, 160, rfl⟩
abbrev main_v86_2 : Ref sig .tc := ⟨.hbm, 161, rfl⟩
abbrev main_v86_3 : Ref sig .tc := ⟨.hbm, 162, rfl⟩
abbrev main_v86_4 : Ref sig .tc := ⟨.hbm, 163, rfl⟩
abbrev main_v86_5 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_46 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_cst_47 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_48 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_6 : BitVec 32 := 0#32
  let v18 : BitVec 1 := Scalar.cmpi .ne v17 c0_i32_6
  v18

def k0_cond2 (i : grid0.Coords) : BitVec 1 :=
  let arg0 : BitVec 32 := BitVec.ofNat 32 (i 0).val
  let c0_i32_7 : BitVec 32 := 0#32
  let v19 : BitVec 1 := Scalar.cmpi .sgt arg0 c0_i32_7
  let v20 : BitVec 32 := Scalar.extui v19
  let c0_i32_8 : BitVec 32 := 0#32
  let v21 : BitVec 1 := Scalar.cmpi .ne v20 c0_i32_8
  v21

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1280 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![31], ![false]⟩

def k1_cond1 (i : grid1.Coords) : BitVec 1 :=
  let arg0 : BitVec 32 := BitVec.ofNat 32 (i 0).val
  let c0_i32 : BitVec 32 := 0#32
  let v359 : BitVec 1 := Scalar.cmpi .eq arg0 c0_i32
  let v360 : BitVec 32 := Scalar.extui v359
  let c0_i32_195 : BitVec 32 := 0#32
  let v361 : BitVec 1 := Scalar.cmpi .ne v360 c0_i32_195
  v361

def k1_cond2 (i : grid1.Coords) : BitVec 1 :=
  let arg0 : BitVec 32 := BitVec.ofNat 32 (i 0).val
  let c0_i32_196 : BitVec 32 := 0#32
  let v362 : BitVec 1 := Scalar.cmpi .sgt arg0 c0_i32_196
  let v363 : BitVec 32 := Scalar.extui v362
  let c0_i32_197 : BitVec 32 := 0#32
  let v364 : BitVec 1 := Scalar.cmpi .ne v363 c0_i32_197
  v364

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6144x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6144x1280 .fp8e5m2 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6144x256 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1280 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S768x8x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x1280 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![12], ![false]⟩

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x7936 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S7936x1280 .fp8e4m3 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x8x1280 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S6x1024x7936 : Shape := ⟨3, ![6, 1024, 7936]⟩
abbrev S7936x1280 : Shape := ⟨2, ![7936, 1280]⟩
abbrev S6x1024x1280 : Shape := ⟨3, ![6, 1024, 1280]⟩
abbrev S16 : Shape := ⟨1, ![16]⟩
abbrev S277 : Shape := ⟨1, ![277]⟩
abbrev S278 : Shape := ⟨1, ![278]⟩
abbrev S_ : Shape := ⟨0, ![]⟩
abbrev S15 : Shape := ⟨1, ![15]⟩
abbrev S1 : Shape := ⟨1, ![1]⟩
abbrev S1x1 : Shape := ⟨2, ![1, 1]⟩
abbrev S6144x7936 : Shape := ⟨2, ![6144, 7936]⟩
abbrev S6144x1280 : Shape := ⟨2, ![6144, 1280]⟩

abbrev nBuf : Space → Nat
  | .hbm => 182
  | .vmem => 15
  | .smem => 0
  | _ => 0

abbrev hbmTy0_0 (i : Nat) : BufTy := match i % 128 with
  | 0 => ⟨S6x1024x7936, .bf16⟩
  | 1 => ⟨S7936x1280, .f32⟩
  | 2 => ⟨S6x1024x1280, .bf16⟩
  | 3 => ⟨S16, .f32⟩
  | 4 => ⟨S16, .f32⟩
  | 5 => ⟨S16, .f32⟩
  | 6 => ⟨S277, .f32⟩
  | 7 => ⟨S278, .i32⟩
  | 8 => ⟨S278, .f32⟩
  | 9 => ⟨S_, .f32⟩
  | 10 => ⟨S_, .f32⟩
  | 11 => ⟨S_, .f32⟩
  | 12 => ⟨S_, .f32⟩
  | 13 => ⟨S_, .f32⟩
  | 14 => ⟨S277, .f32⟩
  | 15 => ⟨S277, .i1⟩
  | 16 => ⟨S277, .i32⟩
  | 17 => ⟨S_, .f32⟩
  | 18 => ⟨S_, .i1⟩
  | 19 => ⟨S_, .f32⟩
  | 20 => ⟨S_, .i1⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .f32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S278, .i32⟩
  | 37 => ⟨S278, .i1⟩
  | 38 => ⟨S_, .f32⟩
  | 39 => ⟨S_, .f32⟩
  | 40 => ⟨S278, .f32⟩
  | 41 => ⟨S278, .f32⟩
  | 42 => ⟨S_, .f32⟩
  | 43 => ⟨S_, .f32⟩
  | 44 => ⟨S_, .i32⟩
  | 45 => ⟨S_, .i32⟩
  | 46 => ⟨S_, .i32⟩
  | 47 => ⟨S278, .i32⟩
  | 48 => ⟨S278, .i1⟩
  | 49 => ⟨S_, .f32⟩
  | 50 => ⟨S_, .f32⟩
  | 51 => ⟨S278, .f32⟩
  | 52 => ⟨S278, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S277, .f32⟩
  | 61 => ⟨S277, .i1⟩
  | 62 => ⟨S277, .i32⟩
  | 63 => ⟨S_, .f32⟩
  | 64 => ⟨S_, .i1⟩
  | 65 => ⟨S_, .f32⟩
  | 66 => ⟨S_, .i1⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .f32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S278, .i32⟩
  | 83 => ⟨S278, .i1⟩
  | 84 => ⟨S_, .f32⟩
  | 85 => ⟨S_, .f32⟩
  | 86 => ⟨S278, .f32⟩
  | 87 => ⟨S278, .f32⟩
  | 88 => ⟨S_, .f32⟩
  | 89 => ⟨S_, .f32⟩
  | 90 => ⟨S_, .i32⟩
  | 91 => ⟨S_, .i32⟩
  | 92 => ⟨S_, .i32⟩
  | 93 => ⟨S278, .i32⟩
  | 94 => ⟨S278, .i1⟩
  | 95 => ⟨S_, .f32⟩
  | 96 => ⟨S_, .f32⟩
  | 97 => ⟨S278, .f32⟩
  | 98 => ⟨S278, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S277, .f32⟩
  | 107 => ⟨S277, .i1⟩
  | 108 => ⟨S277, .i32⟩
  | 109 => ⟨S_, .f32⟩
  | 110 => ⟨S_, .i1⟩
  | 111 => ⟨S_, .f32⟩
  | 112 => ⟨S_, .i1⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .f32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S6x1024x7936, .bf16⟩

abbrev hbmTy0_1 (i : Nat) : BufTy := match i % 128 with
  | 0 => ⟨S278, .i32⟩
  | 1 => ⟨S278, .i1⟩
  | 2 => ⟨S_, .f32⟩
  | 3 => ⟨S_, .f32⟩
  | 4 => ⟨S278, .f32⟩
  | 5 => ⟨S278, .f32⟩
  | 6 => ⟨S_, .f32⟩
  | 7 => ⟨S_, .f32⟩
  | 8 => ⟨S_, .i32⟩
  | 9 => ⟨S_, .i32⟩
  | 10 => ⟨S_, .i32⟩
  | 11 => ⟨S278, .i32⟩
  | 12 => ⟨S278, .i1⟩
  | 13 => ⟨S_, .f32⟩
  | 14 => ⟨S_, .f32⟩
  | 15 => ⟨S278, .f32⟩
  | 16 => ⟨S278, .f32⟩
  | 17 => ⟨S_, .f32⟩
  | 18 => ⟨S_, .f32⟩
  | 19 => ⟨S6x1024x7936, .bf16⟩
  | 20 => ⟨S_, .bf16⟩
  | 21 => ⟨S_, .bf16⟩
  | 22 => ⟨S_, .f32⟩
  | 23 => ⟨S15, .f32⟩
  | 24 => ⟨S1, .f32⟩
  | 25 => ⟨S16, .f32⟩
  | 26 => ⟨S7936x1280, .f32⟩
  | 27 => ⟨S_, .f32⟩
  | 28 => ⟨S_, .f32⟩
  | 29 => ⟨S15, .f32⟩
  | 30 => ⟨S1, .f32⟩
  | 31 => ⟨S16, .f32⟩
  | 32 => ⟨S6x1024x1280, .bf16⟩
  | 33 => ⟨S_, .bf16⟩
  | 34 => ⟨S_, .bf16⟩
  | 35 => ⟨S_, .f32⟩
  | 36 => ⟨S15, .f32⟩
  | 37 => ⟨S1, .f32⟩
  | 38 => ⟨S16, .f32⟩
  | 39 => ⟨S1x1, .f32⟩
  | 40 => ⟨S1x1, .f32⟩
  | 41 => ⟨S1x1, .f32⟩
  | 42 => ⟨S_, .f32⟩
  | 43 => ⟨S1x1, .f32⟩
  | 44 => ⟨S_, .f32⟩
  | 45 => ⟨S1x1, .f32⟩
  | 46 => ⟨S_, .f32⟩
  | 47 => ⟨S1x1, .f32⟩
  | 48 => ⟨S6x1024x1280, .bf16⟩
  | 49 => ⟨S6x1024x7936, .bf16⟩
  | 50 => ⟨S7936x1280, .f32⟩
  | 51 => ⟨S6x1024x7936, .fp8e4m3⟩
  | 52 => ⟨S7936x1280, .fp8e4m3⟩
  | 53 => ⟨S6x1024x1280, .fp8e5m2⟩
  | _ => ⟨S6x1024x7936, .bf16⟩

abbrev hbmTy (i : Nat) : BufTy := match i / 128 with
  | 0 => hbmTy0_0 i
  | 1 => hbmTy0_1 i
  | _ => ⟨S6x1024x7936, .bf16⟩

abbrev bufTy : (tb : Table) → Fin (tcTables nBuf tb) → BufTy
  | .hbm, ⟨i, _⟩ => hbmTy i
  | .local _ .vmem, ⟨0, _⟩ => ⟨S6x1024x7936, .bf16⟩
  | .local _ .vmem, ⟨1, _⟩ => ⟨S7936x1280, .f32⟩
  | .local _ .vmem, ⟨2, _⟩ => ⟨S6x1024x1280, .bf16⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S6x1024x1280, .bf16⟩
  | .local _ .vmem, ⟨10, _⟩ => ⟨S6x1024x7936, .bf16⟩
  | .local _ .vmem, ⟨11, _⟩ => ⟨S7936x1280, .f32⟩
  | .local _ .vmem, ⟨12, _⟩ => ⟨S6x1024x7936, .fp8e4m3⟩
  | .local _ .vmem, ⟨13, _⟩ => ⟨S7936x1280, .fp8e4m3⟩
  | .local _ .vmem, ⟨14, _⟩ => ⟨S6x1024x1280, .fp8e5m2⟩
  | _, _ => ⟨S6x1024x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_cst_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_c_5 : Ref sig .tc := ⟨.hbm, 22, rfl⟩
abbrev main_v9 : Ref sig .tc := ⟨.hbm, 23, rfl⟩
abbrev main_c_6 : Ref sig .tc := ⟨.hbm, 24, rfl⟩
abbrev main_v10 : Ref sig .tc := ⟨.hbm, 25, rfl⟩
abbrev main_c_7 : Ref sig .tc := ⟨.hbm, 26, rfl⟩
abbrev main_call0_v0 : Ref sig .tc := ⟨.hbm, 27, rfl⟩
abbrev main_v11 : Ref sig .tc := ⟨.hbm, 28, rfl⟩
abbrev main_cst_8 : Ref sig .tc := ⟨.hbm, 29, rfl⟩
abbrev main_v12 : Ref sig .tc := ⟨.hbm, 30, rfl⟩
abbrev main_c_9 : Ref sig .tc := ⟨.hbm, 31, rfl⟩
abbrev main_call1_v0 : Ref sig .tc := ⟨.hbm, 32, rfl⟩
abbrev main_v13 : Ref sig .tc := ⟨.hbm, 33, rfl⟩
abbrev main_c_10 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_11 : Ref sig .tc := ⟨.hbm, 38, rfl⟩
abbrev main_call2_v0 : Ref sig .tc := ⟨.hbm, 39, rfl⟩
abbrev main_call2_v1 : Ref sig .tc := ⟨.hbm, 40, rfl⟩
abbrev main_v17 : Ref sig .tc := ⟨.hbm, 41, rfl⟩
abbrev main_cst_12 : Ref sig .tc := ⟨.hbm, 42, rfl⟩
abbrev main_v18 : Ref sig .tc := ⟨.hbm, 43, rfl⟩
abbrev main_v19 : Ref sig .tc := ⟨.hbm, 44, rfl⟩
abbrev main_c_13 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_14 : Ref sig .tc := ⟨.hbm, 49, rfl⟩
abbrev main_call3_v0 : Ref sig .tc := ⟨.hbm, 50, rfl⟩
abbrev main_call3_v1 : Ref sig .tc := ⟨.hbm, 51, rfl⟩
abbrev main_v23 : Ref sig .tc := ⟨.hbm, 52, rfl⟩
abbrev main_cst_15 : Ref sig .tc := ⟨.hbm, 53, rfl⟩
abbrev main_v24 : Ref sig .tc := ⟨.hbm, 54, rfl⟩
abbrev main_cst_16 : Ref sig .tc := ⟨.hbm, 55, rfl⟩
abbrev main_v25 : Ref sig .tc := ⟨.hbm, 56, rfl⟩
abbrev main_cst_17 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_18 : Ref sig .tc := ⟨.hbm, 63, rfl⟩
abbrev main_v31 : Ref sig .tc := ⟨.hbm, 64, rfl⟩
abbrev main_cst_19 : Ref sig .tc := ⟨.hbm, 65, rfl⟩
abbrev main_v32 : Ref sig .tc := ⟨.hbm, 66, rfl⟩
abbrev main_v33 : Ref sig .tc := ⟨.hbm, 67, rfl⟩
abbrev main_c_20 : Ref sig .tc := ⟨.hbm, 68, rfl⟩
abbrev main_v34 : Ref sig .tc := ⟨.hbm, 69, rfl⟩
abbrev main_c_21 : Ref sig .tc := ⟨.hbm, 70, rfl⟩
abbrev main_v35 : Ref sig .tc := ⟨.hbm, 71, rfl⟩
abbrev main_c_22 : Ref sig .tc := ⟨.hbm, 72, rfl⟩
abbrev main_call4_v0 : Ref sig .tc := ⟨.hbm, 73, rfl⟩
abbrev main_v36 : Ref sig .tc := ⟨.hbm, 74, rfl⟩
abbrev main_cst_23 : Ref sig .tc := ⟨.hbm, 75, rfl⟩
abbrev main_v37 : Ref sig .tc := ⟨.hbm, 76, rfl⟩
abbrev main_c_24 : Ref sig .tc := ⟨.hbm, 77, rfl⟩
abbrev main_call5_v0 : Ref sig .tc := ⟨.hbm, 78, rfl⟩
abbrev main_v38 : Ref sig .tc := ⟨.hbm, 79, rfl⟩
abbrev main_c_25 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_26 : Ref sig .tc := ⟨.hbm, 84, rfl⟩
abbrev main_call6_v0 : Ref sig .tc := ⟨.hbm, 85, rfl⟩
abbrev main_call6_v1 : Ref sig .tc := ⟨.hbm, 86, rfl⟩
abbrev main_v42 : Ref sig .tc := ⟨.hbm, 87, rfl⟩
abbrev main_cst_27 : Ref sig .tc := ⟨.hbm, 88, rfl⟩
abbrev main_v43 : Ref sig .tc := ⟨.hbm, 89, rfl⟩
abbrev main_v44 : Ref sig .tc := ⟨.hbm, 90, rfl⟩
abbrev main_c_28 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_29 : Ref sig .tc := ⟨.hbm, 95, rfl⟩
abbrev main_call7_v0 : Ref sig .tc := ⟨.hbm, 96, rfl⟩
abbrev main_call7_v1 : Ref sig .tc := ⟨.hbm, 97, rfl⟩
abbrev main_v48 : Ref sig .tc := ⟨.hbm, 98, rfl⟩
abbrev main_cst_30 : Ref sig .tc := ⟨.hbm, 99, rfl⟩
abbrev main_v49 : Ref sig .tc := ⟨.hbm, 100, rfl⟩
abbrev main_cst_31 : Ref sig .tc := ⟨.hbm, 101, rfl⟩
abbrev main_v50 : Ref sig .tc := ⟨.hbm, 102, rfl⟩
abbrev main_cst_32 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_33 : Ref sig .tc := ⟨.hbm, 109, rfl⟩
abbrev main_v56 : Ref sig .tc := ⟨.hbm, 110, rfl⟩
abbrev main_cst_34 : Ref sig .tc := ⟨.hbm, 111, rfl⟩
abbrev main_v57 : Ref sig .tc := ⟨.hbm, 112, rfl⟩
abbrev main_v58 : Ref sig .tc := ⟨.hbm, 113, rfl⟩
abbrev main_c_35 : Ref sig .tc := ⟨.hbm, 114, rfl⟩
abbrev main_v59 : Ref sig .tc := ⟨.hbm, 115, rfl⟩
abbrev main_c_36 : Ref sig .tc := ⟨.hbm, 116, rfl⟩
abbrev main_v60 : Ref sig .tc := ⟨.hbm, 117, rfl⟩
abbrev main_c_37 : Ref sig .tc := ⟨.hbm, 118, rfl⟩
abbrev main_call8_v0 : Ref sig .tc := ⟨.hbm, 119, rfl⟩
abbrev main_v61 : Ref sig .tc := ⟨.hbm, 120, rfl⟩
abbrev main_cst_38 : Ref sig .tc := ⟨.hbm, 121, rfl⟩
abbrev main_v62 : Ref sig .tc := ⟨.hbm, 122, rfl⟩
abbrev main_c_39 : Ref sig .tc := ⟨.hbm, 123, rfl⟩
abbrev main_call9_v0 : Ref sig .tc := ⟨.hbm, 124, rfl⟩
abbrev main_v63 : Ref sig .tc := ⟨.hbm, 125, rfl⟩
abbrev main_c_40 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_41 : Ref sig .tc := ⟨.hbm, 130, rfl⟩
abbrev main_call10_v0 : Ref sig .tc := ⟨.hbm, 131, rfl⟩
abbrev main_call10_v1 : Ref sig .tc := ⟨.hbm, 132, rfl⟩
abbrev main_v67 : Ref sig .tc := ⟨.hbm, 133, rfl⟩
abbrev main_cst_42 : Ref sig .tc := ⟨.hbm, 134, rfl⟩
abbrev main_v68 : Ref sig .tc := ⟨.hbm, 135, rfl⟩
abbrev main_v69 : Ref sig .tc := ⟨.hbm, 136, rfl⟩
abbrev main_c_43 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_cst_44 : Ref sig .tc := ⟨.hbm, 141, rfl⟩
abbrev main_call11_v0 : Ref sig .tc := ⟨.hbm, 142, rfl⟩
abbrev main_call11_v1 : Ref sig .tc := ⟨.hbm, 143, rfl⟩
abbrev main_v73 : Ref sig .tc := ⟨.hbm, 144, rfl⟩
abbrev main_cst_45 : Ref sig .tc := ⟨.hbm, 145, rfl⟩
abbrev main_v74 : Ref sig .tc := ⟨.hbm, 146, rfl⟩
abbrev main_v75 : Ref sig .tc := ⟨.hbm, 147, rfl⟩
abbrev main_cst_46 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_47 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_cst_48 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101_0 : Ref sig .tc := ⟨.hbm, 176, rfl⟩
abbrev main_v101_1 : Ref sig .tc := ⟨.hbm, 177, rfl⟩
abbrev main_v101_2 : Ref sig .tc := ⟨.hbm, 178, rfl⟩
abbrev main_v101_3 : Ref sig .tc := ⟨.hbm, 179, rfl⟩
abbrev main_v101_4 : Ref sig .tc := ⟨.hbm, 180, rfl⟩
abbrev main_v101_5 : Ref sig .tc := ⟨.hbm, 181, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6x1024x7936 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7936x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1024x1280 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1024x7936 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7936x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x1024x7936 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S7936x1280 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x1024x1280 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelFrame.Region0.lean ====
/-
The frame of the printed program `Kernel`: region 0 (the quantisation of dy): its blocks, its body's triple in each case, the contents of its outputs point by point, its proof data.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_dy` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x20 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → cfg0.idle 3 (grid0.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S1024x1280 .fp8e5m2 := (Memref.whole cc0_stg2_0 : Memref sig .tc .vmem S1024x1280 .fp8e5m2).view
/-- One staging buffer of output window 3, through which its contents are stated (`View.read_writes_of_cover`: the
    choice does not matter). -/
abbrev VO0_3 : View sig .tc .vmem S8x1280 .f32 := (Memref.whole cc0_stg3_0 : Memref sig .tc .vmem S8x1280 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1280 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1280 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) :
    Σ' (L2 : List (View.Piece (Elt F) S1024x1280 .fp8e5m2)), { L3 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_dy i arg1 harg1 arg2 harg2 arg3 harg3 arg4 harg4) K } := by
  refine ⟨?_, ?_, fun E K => ?run⟩
  case run =>
    simp only [cc0_quant_dy_eq_skeleton]; unfold cc0_quant_dy_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (1 store of `S1024x1280`, checked by the kernel's evaluation: Lib/Ring.lean `Piece.tiledL`, linear in the pieces, through a loop's `@[irreducible]` trip theorem too), so they cover it. -/
theorem cover0_A_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) (y : S1024x1280.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1024x1280.size (by sl_kernel_rfl) y

/-- What case A leaves in output 2's staging buffer: its pieces read back over junk. -/
def out0_A_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) : Vec F S1024x1280 .fp8e5m2 :=
  VO0_2.read (Elt F) (VO0_2.writes (Elt F) VO0_2.junk (kernelRun0_A c i arg1 harg1 arg2 harg2 arg3 harg3 arg4 harg4 hc0 hc1 x0 x1).1)

/-- Case A's pieces for output 3 tile its block (1 store of `S8x1280`, checked by the kernel's evaluation: Lib/Ring.lean `Piece.tiledL`, linear in the pieces, through a loop's `@[irreducible]` trip theorem too), so they cover it. -/
theorem cover0_A_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) (y : S8x1280.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S8x1280.size (by sl_kernel_rfl) y

/-- What case A leaves in output 3's staging buffer: its pieces read back over junk. -/
def out0_A_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) : Vec F S8x1280 .f32 :=
  VO0_3.read (Elt F) (VO0_3.writes (Elt F) VO0_3.junk (kernelRun0_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, 3, 4, 5), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) :
    Σ' (L2 : List (View.Piece (Elt F) S1024x1280 .fp8e5m2)), { L3 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_dy i arg1 harg1 arg2 harg2 arg3 harg3 arg4 harg4) K } := by
  refine ⟨?_, ?_, fun E K => ?run⟩
  case run =>
    simp only [cc0_quant_dy_eq_skeleton]; unfold cc0_quant_dy_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block (1 store of `S1024x1280`, checked by the kernel's evaluation: Lib/Ring.lean `Piece.tiledL`, linear in the pieces, through a loop's `@[irreducible]` trip theorem too), so they cover it. -/
theorem cover0_B_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) (y : S1024x1280.Idx) :
    ∃ pc ∈ (kernelRun0_B c i arg1 harg1 arg2 harg2 arg3 harg3 arg4 harg4 hc0 hc1 x0 x1 xo3).1, y ∈ pc.1.set :=
  View.cover_of_tiledL (kernelRun0_B c i arg1 harg1 arg2 harg2 arg3 harg3 arg4 harg4 hc0 hc1 x0 x1 xo3).1 S1024x1280.size (by sl_kernel_rfl) y

/-- What case B leaves in output 2's staging buffer: its pieces read back over junk. -/
def out0_B_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) : Vec F S1024x1280 .fp8e5m2 :=
  VO0_2.read (Elt F) (VO0_2.writes (Elt F) VO0_2.junk (kernelRun0_B c i arg1 harg1 arg2 harg2 arg3 harg3 arg4 harg4 hc0 hc1 x0 x1 xo3).1)

/-- Case B's pieces for output 3 tile its block (1 store of `S8x1280`, checked by the kernel's evaluation: Lib/Ring.lean `Piece.tiledL`, linear in the pieces, through a loop's `@[irreducible]` trip theorem too), so they cover it. -/
theorem cover0_B_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) (y : S8x1280.Idx) :
    ∃ pc ∈ (kernelRun0_B c i arg1 harg1 arg2 harg2 arg3 harg3 arg4 harg4 hc0 hc1 x0 x1 xo3).2.1, y ∈ pc.1.set :=
  View.cover_of_tiledL (kernelRun0_B c i arg1 harg1 arg2 harg2 arg3 harg3 arg4 harg4 hc0 hc1 x0 x1 xo3).2.1 S8x1280.size (by sl_kernel_rfl) y

/-- What case B leaves in output 3's staging buffer: its pieces read back over junk. -/
def out0_B_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) : Vec F S8x1280 .f32 :=
  VO0_3.read (Elt F) (VO0_3.writes (Elt F) VO0_3.junk (kernelRun0_B c i arg1 harg1 arg2 harg2 arg3 harg3 arg4 harg4 hc0 hc1 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x1280 .fp8e5m2 × Vec F S8x1280 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 6 = 0 then
      if h1 : 1 ≤ (n + 1) then
        False.elim (by have hN : n + 1 < 6 := lt_of_lt_of_eq hn (show cfg0.N = 6 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by have hN : n + 1 < 6 := lt_of_lt_of_eq hn (show cfg0.N = 6 from N_0); omega)

/-- `outsAt0` at a point of case A: that case's contents. -/
theorem outsAt0_A (c : Dev nD) (t : Fin cfg0.N) (h0 : t.val % 6 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 6 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 6 := lt_of_lt_of_eq t.isLt (show cfg0.N = 6 from N_0)
  rw [after0_3, after0_3]
  by_cases h0 : t.val % 6 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 6 = 0) (h1 : 1 ≤ t.val) (d) :
    (dat0 V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 6 := lt_of_lt_of_eq t.isLt (show cfg0.N = 6 from N_0)
  by_cases h0 : t.val % 6 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid0.coords t) _ _ _ _ _ _ _ _ ((hcond0_0 t).mpr h0) (fun h => h1 ((hcond0_1 t).mp h)) (iblk0 V c 0 t) (iblk0 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.KernelFrame.Region1.lean ====
/-
The frame of the printed program `Kernel`: region 1 (the two gradient products): its blocks, its body's triple in each case, the contents of its outputs point by point, its proof data.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_grads` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 31 = 0 :=
  (fun t => by
    have ht : t.val < 31 := Nat.lt_of_lt_of_eq t.isLt N_1
    have e0 : (grid1.coords t 0).val = t.val / 1 % 31 := Pipeline.Grid.coords_val t 0 (by decide) rfl
    simp only [cond1_0, k1_cond1, e0]
    word_cmp
   : ∀ t : Fin grid1.N, cond1_0 (grid1.coords t) ↔ t.val % 31 = 0)

/-- The condition of the body's `scf.if` 1 (`k1_h2`), from the grid coordinates (the skeleton's scalar
    chain substituted). -/
abbrev cond1_1 (i : grid1.Coords) : Prop := k1_cond2 i = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Window 5 is never idle (an output stored at every point, under no condition). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Window 7 is never idle (an output stored at every point, under no condition). -/
theorem liveAt1_7 : ∀ t : Fin cfg1.N, cfg1.idle 7 (grid1.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab1_8_step` checks it against the configuration's own
    step point by point and Lib/Pipeline/TableIdle.lean `Cfg.fresh_tab` makes it `Cfg.fresh` (`fresh1_8_eq`). -/
def freshTab1_8 : ℕ → Bool
  | 0 => true
  | n + 1 => (0x40000000 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem fresh1_8_eq (t : Fin cfg1.N) : cfg1.fresh 8 t.val = freshTab1_8 t.val :=
  Pipeline.Cfg.fresh_tab cfg1 8 freshTab1_8 rfl freshTab1_8_step t.val (Nat.le_of_lt t.isLt)
/-- At the points of case A the printed configuration (`Cfg.idle`) calls output 8 live: the case stores into it. -/
theorem liveAt1_8_A : ∀ t : Fin cfg1.N, cond1_0 (grid1.coords t) → ¬cond1_1 (grid1.coords t) → cfg1.idle 8 (grid1.coords t) = false := by decide +kernel
/-- At the points of case B the printed configuration (`Cfg.idle`) calls output 8 live: the case stores into it. -/
theorem liveAt1_8_B : ∀ t : Fin cfg1.N, ¬cond1_0 (grid1.coords t) → cond1_1 (grid1.coords t) → cfg1.idle 8 (grid1.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab1_8`). -/
theorem notFresh1_8_B : ∀ t : Fin cfg1.N, ¬cond1_0 (grid1.coords t) → cond1_1 (grid1.coords t) → cfg1.fresh 8 t.val = false := by
  intro t; rw [fresh1_8_eq t]; revert t; decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab1_9_step` checks it against the configuration's own
    step point by point and Lib/Pipeline/TableIdle.lean `Cfg.fresh_tab` makes it `Cfg.fresh` (`fresh1_9_eq`). -/
def freshTab1_9 : ℕ → Bool
  | 0 => true
  | n + 1 => (0x40000000 : ℕ).testBit n
theorem freshTab1_9_step : ∀ t : Fin cfg1.N,
    freshTab1_9 (t.val + 1) = ((cfg1.win 9).flush t || (cfg1.idle 9 (cfg1.grid.coords t) && freshTab1_9 t.val)) := by decide +kernel
theorem fresh1_9_eq (t : Fin cfg1.N) : cfg1.fresh 9 t.val = freshTab1_9 t.val :=
  Pipeline.Cfg.fresh_tab cfg1 9 freshTab1_9 rfl freshTab1_9_step t.val (Nat.le_of_lt t.isLt)
/-- At the points of case A the printed configuration (`Cfg.idle`) calls output 9 live: the case stores into it. -/
theorem liveAt1_9_A : ∀ t : Fin cfg1.N, cond1_0 (grid1.coords t) → ¬cond1_1 (grid1.coords t) → cfg1.idle 9 (grid1.coords t) = false := by decide +kernel
/-- At the points of case B the printed configuration (`Cfg.idle`) calls output 9 live: the case stores into it. -/
theorem liveAt1_9_B : ∀ t : Fin cfg1.N, ¬cond1_0 (grid1.coords t) → cond1_1 (grid1.coords t) → cfg1.idle 9 (grid1.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab1_9`). -/
theorem notFresh1_9_B : ∀ t : Fin cfg1.N, ¬cond1_0 (grid1.coords t) → cond1_1 (grid1.coords t) → cfg1.fresh 9 t.val = false := by
  intro t; rw [fresh1_9_eq t]; revert t; decide +kernel

/-! ## The kernel body on any staging memrefs: a subtype the run finds -/

/-- One staging buffer of output window 4, through which its contents are stated (`View.read_writes_of_cover`: the
    choice does not matter). -/
abbrev VO1_4 : View sig .tc .vmem S6144x256 .fp8e4m3 := (Memref.whole cc1_stg4_0 : Memref sig .tc .vmem S6144x256 .fp8e4m3).view
/-- One staging buffer of output window 5, through which its contents are stated (`View.read_writes_of_cover`: the
    choice does not matter). -/
abbrev VO1_5 : View sig .tc .vmem S256x1280 .fp8e4m3 := (Memref.whole cc1_stg5_0 : Memref sig .tc .vmem S256x1280 .fp8e4m3).view
/-- One staging buffer of output window 6, through which its contents are stated (`View.read_writes_of_cover`: the
    choice does not matter). -/
abbrev VO1_6 : View sig .tc .vmem S768x8x256 .bf16 := (Memref.whole cc1_stg6_0 : Memref sig .tc .vmem S768x8x256 .bf16).view
/-- One staging buffer of output window 7, through which its contents are stated (`View.read_writes_of_cover`: the
    choice does not matter). -/
abbrev VO1_7 : View sig .tc .vmem S256x1280 .f32 := (Memref.whole cc1_stg7_0 : Memref sig .tc .vmem S256x1280 .f32).view
/-- One staging buffer of output window 8, through which its contents are stated (`View.read_writes_of_cover`: the
    choice does not matter). -/
abbrev VO1_8 : View sig .tc .vmem S8x256 .f32 := (Memref.whole cc1_stg8_0 : Memref sig .tc .vmem S8x256 .f32).view
/-- One staging buffer of output window 9, through which its contents are stated (`View.read_writes_of_cover`: the
    choice does not matter). -/
abbrev VO1_9 : View sig .tc .vmem S8x1280 .f32 := (Memref.whole cc1_stg9_0 : Memref sig .tc .vmem S8x1280 .f32).view
/-- Each window's current staging memref at point `t`, spelled as the pipeline passes it (`bodyAt1`), and its wholeness. -/
abbrev ms1_0 (t : Fin cfg1.N) : Memref sig .tc .smem S4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6144x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x1280 .fp8e5m2 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x256 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1280 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x8x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1280 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x1280 .f32 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) :
    Σ' (L4 : List (View.Piece (Elt F) S6144x256 .fp8e4m3)), Σ' (L5 : List (View.Piece (Elt F) S256x1280 .fp8e4m3)), Σ' (L6 : List (View.Piece (Elt F) S768x8x256 .bf16)), Σ' (L7 : List (View.Piece (Elt F) S256x1280 .f32)), Σ' (L8 : List (View.Piece (Elt F) S8x256 .f32)), { L9 : List (View.Piece (Elt F) S8x1280 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_grads i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_grads_eq_skeleton]; unfold cc1_grads_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- Case A's pieces for output 4 tile its block (12 stores of `S512x256`, checked by the kernel's evaluation: Lib/Ring.lean `Piece.tiledL`, linear in the pieces, through a loop's `@[irreducible]` trip theorem too), so they cover it. -/
theorem cover1_A_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S6144x256.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).1 S512x256.size (by sl_kernel_rfl) y

/-- What case A leaves in output 4's staging buffer: its pieces read back over junk. -/
def out1_A_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S6144x256 .fp8e4m3 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 hc0 hc1 x0 x1 x2 x3).1)

/-- Case A's pieces for output 5 tile its block (1 store of `S256x1280`, checked by the kernel's evaluation: Lib/Ring.lean `Piece.tiledL`, linear in the pieces, through a loop's `@[irreducible]` trip theorem too), so they cover it. -/
theorem cover1_A_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S256x1280.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.1 S256x1280.size (by sl_kernel_rfl) y

/-- What case A leaves in output 5's staging buffer: its pieces read back over junk. -/
def out1_A_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S256x1280 .fp8e4m3 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 hc0 hc1 x0 x1 x2 x3).2.1)

/-- Case A's pieces for output 6 tile its block (12 stores of `S64x8x256`, checked by the kernel's evaluation: Lib/Ring.lean `Piece.tiledL`, linear in the pieces, through a loop's `@[irreducible]` trip theorem too), so they cover it. -/
theorem cover1_A_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S768x8x256.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.1 S64x8x256.size (by sl_kernel_rfl) y

/-- What case A leaves in output 6's staging buffer: its pieces read back over junk. -/
def out1_A_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S768x8x256 .bf16 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 hc0 hc1 x0 x1 x2 x3).2.2.1)

/-- Case A's pieces for output 7 tile its block (1 store of `S256x1280`, checked by the kernel's evaluation: Lib/Ring.lean `Piece.tiledL`, linear in the pieces, through a loop's `@[irreducible]` trip theorem too), so they cover it. -/
theorem cover1_A_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S256x1280.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.1 S256x1280.size (by sl_kernel_rfl) y

/-- What case A leaves in output 7's staging buffer: its pieces read back over junk. -/
def out1_A_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S256x1280 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 hc1 x0 x1 x2 x3).2.2.2.1)

/-- Case A's pieces for output 8 tile its block (1 store of `S8x256`, checked by the kernel's evaluation: Lib/Ring.lean `Piece.tiledL`, linear in the pieces, through a loop's `@[irreducible]` trip theorem too), so they cover it. -/
theorem cover1_A_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S8x256.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.2.1 S8x256.size (by sl_kernel_rfl) y

/-- What case A leaves in output 8's staging buffer: its pieces read back over junk. -/
def out1_A_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S8x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 hc1 x0 x1 x2 x3).2.2.2.2.1)

/-- Case A's pieces for output 9 tile its block (1 store of `S8x1280`, checked by the kernel's evaluation: Lib/Ring.lean `Piece.tiledL`, linear in the pieces, through a loop's `@[irreducible]` trip theorem too), so they cover it. -/
theorem cover1_A_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S8x1280.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.2.2.1 S8x1280.size (by sl_kernel_rfl) y

/-- What case A leaves in output 9's staging buffer: its pieces read back over junk. -/
def out1_A_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S8x1280 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 hc1 x0 x1 x2 x3).2.2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 30: 30 of 31), WITH the
    proof that on whole staging memrefs — the inputs' at their contents, the outputs it reads before covering (8, 9) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) :
    Σ' (L4 : List (View.Piece (Elt F) S6144x256 .fp8e4m3)), Σ' (L5 : List (View.Piece (Elt F) S256x1280 .fp8e4m3)), Σ' (L6 : List (View.Piece (Elt F) S768x8x256 .bf16)), Σ' (L7 : List (View.Piece (Elt F) S256x1280 .f32)), Σ' (L8 : List (View.Piece (Elt F) S8x256 .f32)), { L9 : List (View.Piece (Elt F) S8x1280 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_grads i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_grads_eq_skeleton]; unfold cc1_grads_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- Case B's pieces for output 4 tile its block (12 stores of `S512x256`, checked by the kernel's evaluation: Lib/Ring.lean `Piece.tiledL`, linear in the pieces, through a loop's `@[irreducible]` trip theorem too), so they cover it. -/
theorem cover1_B_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S6144x256.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).1 S512x256.size (by sl_kernel_rfl) y

/-- What case B leaves in output 4's staging buffer: its pieces read back over junk. -/
def out1_B_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S6144x256 .fp8e4m3 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 hc0 hc1 x0 x1 x2 x3 xo8 xo9).1)

/-- Case B's pieces for output 5 tile its block (1 store of `S256x1280`, checked by the kernel's evaluation: Lib/Ring.lean `Piece.tiledL`, linear in the pieces, through a loop's `@[irreducible]` trip theorem too), so they cover it. -/
theorem cover1_B_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S256x1280.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.1 S256x1280.size (by sl_kernel_rfl) y

/-- What case B leaves in output 5's staging buffer: its pieces read back over junk. -/
def out1_B_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S256x1280 .fp8e4m3 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 hc0 hc1 x0 x1 x2 x3 xo8 xo9).2.1)

/-- Case B's pieces for output 6 tile its block (12 stores of `S64x8x256`, checked by the kernel's evaluation: Lib/Ring.lean `Piece.tiledL`, linear in the pieces, through a loop's `@[irreducible]` trip theorem too), so they cover it. -/
theorem cover1_B_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S768x8x256.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.1 S64x8x256.size (by sl_kernel_rfl) y

/-- What case B leaves in output 6's staging buffer: its pieces read back over junk. -/
def out1_B_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S768x8x256 .bf16 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.1)

/-- Case B's pieces for output 7 tile its block (1 store of `S256x1280`, checked by the kernel's evaluation: Lib/Ring.lean `Piece.tiledL`, linear in the pieces, through a loop's `@[irreducible]` trip theorem too), so they cover it. -/
theorem cover1_B_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S256x1280.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1 S256x1280.size (by sl_kernel_rfl) y

/-- What case B leaves in output 7's staging buffer: its pieces read back over junk. -/
def out1_B_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S256x1280 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1)

/-- Case B's pieces for output 8 tile its block (1 store of `S8x256`, checked by the kernel's evaluation: Lib/Ring.lean `Piece.tiledL`, linear in the pieces, through a loop's `@[irreducible]` trip theorem too), so they cover it. -/
theorem cover1_B_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S8x256.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1 S8x256.size (by sl_kernel_rfl) y

/-- What case B leaves in output 8's staging buffer: its pieces read back over junk. -/
def out1_B_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S8x256 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1)

/-- Case B's pieces for output 9 tile its block (1 store of `S8x1280`, checked by the kernel's evaluation: Lib/Ring.lean `Piece.tiledL`, linear in the pieces, through a loop's `@[irreducible]` trip theorem too), so they cover it. -/
theorem cover1_B_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S8x1280.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1 S8x1280.size (by sl_kernel_rfl) y

/-- What case B leaves in output 9's staging buffer: its pieces read back over junk. -/
def out1_B_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S8x1280 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S6144x256 .fp8e4m3 × Vec F S256x1280 .fp8e4m3 × Vec F S768x8x256 .bf16 × Vec F S256x1280 .f32 × Vec F S8x256 .f32 × Vec F S8x1280 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 31 = 0 then
      if h1 : 1 ≤ (n + 1) then
        False.elim (by have hN : n + 1 < 31 := lt_of_lt_of_eq hn (show cfg1.N = 31 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2)
      else
        False.elim (by have hN : n + 1 < 31 := lt_of_lt_of_eq hn (show cfg1.N = 31 from N_1); omega)

/-- `outsAt1` at a point of case A: that case's contents. -/
theorem outsAt1_A (c : Dev nD) (t : Fin cfg1.N) (h0 : t.val % 31 = 0) (h1 : ¬1 ≤ t.val) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 31 = 0) (h1 : 1 ≤ t.val) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]
theorem after1_9 (c : Dev nD) (t : Fin cfg1.N) : (dat1 V c).after 9 t = (outsAt1 V c t.val t.isLt).2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 8's contents CARRY through the points that leave it idle: at such a point, its buffer not fresh, the proof data's
    `after` is the point before's (the case there stores nothing into the window and its term says so; a case that stores
    into it is not idle there by `liveAt1_8_κ`) — the hypothesis of Lib/Pipeline/TableIdle.lean `Dat.before_out_traj`. -/
theorem hcarry1_8 (c : Dev nD) : ∀ (t : Fin cfg1.N) (_ : t.val ≠ 0), cfg1.idle 8 (grid1.coords t) = true → cfg1.fresh 8 t.val = false →
    (dat1 V c).after 8 t = (dat1 V c).after 8 ⟨t.val - 1, by omega⟩ := by
  intro t _ hi _
  have hN : t.val < 31 := lt_of_lt_of_eq t.isLt (show cfg1.N = 31 from N_1)
  rw [after1_8, after1_8]
  by_cases h0 : t.val % 31 = 0
  · by_cases h1 : 1 ≤ t.val
    · exfalso; omega
    · rw [liveAt1_8_A t ((hcond1_0 t).mpr h0) (fun h => h1 ((hcond1_1 t).mp h))] at hi
      exact absurd hi Bool.false_ne_true
  · by_cases h1 : 1 ≤ t.val
    · rw [liveAt1_8_B t (fun h => h0 ((hcond1_0 t).mp h)) ((hcond1_1 t).mpr h1)] at hi
      exact absurd hi Bool.false_ne_true
    · exfalso; omega

/-- Output 9's contents CARRY through the points that leave it idle: at such a point, its buffer not fresh, the proof data's
    `after` is the point before's (the case there stores nothing into the window and its term says so; a case that stores
    into it is not idle there by `liveAt1_9_κ`) — the hypothesis of Lib/Pipeline/TableIdle.lean `Dat.before_out_traj`. -/
theorem hcarry1_9 (c : Dev nD) : ∀ (t : Fin cfg1.N) (_ : t.val ≠ 0), cfg1.idle 9 (grid1.coords t) = true → cfg1.fresh 9 t.val = false →
    (dat1 V c).after 9 t = (dat1 V c).after 9 ⟨t.val - 1, by omega⟩ := by
  intro t _ hi _
  have hN : t.val < 31 := lt_of_lt_of_eq t.isLt (show cfg1.N = 31 from N_1)
  rw [after1_9, after1_9]
  by_cases h0 : t.val % 31 = 0
  · by_cases h1 : 1 ≤ t.val
    · exfalso; omega
    · rw [liveAt1_9_A t ((hcond1_0 t).mpr h0) (fun h => h1 ((hcond1_1 t).mp h))] at hi
      exact absurd hi Bool.false_ne_true
  · by_cases h1 : 1 ≤ t.val
    · rw [liveAt1_9_B t (fun h => h0 ((hcond1_0 t).mp h)) ((hcond1_1 t).mpr h1)] at hi
      exact absurd hi Bool.false_ne_true
    · exfalso; omega
/-- At a point of case B output 8's current staging buffer holds what the point before left: the buffer is not fresh
    there (`notFresh1_8_B`: stored into since the region's entry or the last write-back, carried through the points that
    leave it idle by `hcarry1_8`; Lib/Pipeline/TableIdle.lean `Dat.before_out_traj`). -/
theorem before1_8_B (c : Dev nD) (t : Fin cfg1.N) (h0 : ¬t.val % 31 = 0) (h1 : 1 ≤ t.val) (d) :
    (dat1 V c).before 8 t d = (outsAt1 V c (t.val - 1) (Nat.lt_of_le_of_lt (Nat.sub_le _ _) t.isLt)).2.2.2.2.1 := by
  rw [Dat.before_out_traj _ 8 rfl (fun _ _ => rfl) (hcarry1_8 V c) t.val t rfl d,
    if_neg (by rw [notFresh1_8_B t (fun h => h0 ((hcond1_0 t).mp h)) ((hcond1_1 t).mpr h1)]; exact Bool.false_ne_true)]
  dsimp only [dat1]
/-- At a point of case B output 9's current staging buffer holds what the point before left: the buffer is not fresh
    there (`notFresh1_9_B`: stored into since the region's entry or the last write-back, carried through the points that
    leave it idle by `hcarry1_9`; Lib/Pipeline/TableIdle.lean `Dat.before_out_traj`). -/
theorem before1_9_B (c : Dev nD) (t : Fin cfg1.N) (h0 : ¬t.val % 31 = 0) (h1 : 1 ≤ t.val) (d) :
    (dat1 V c).before 9 t d = (outsAt1 V c (t.val - 1) (Nat.lt_of_le_of_lt (Nat.sub_le _ _) t.isLt)).2.2.2.2.2 := by
  rw [Dat.before_out_traj _ 9 rfl (fun _ _ => rfl) (hcarry1_9 V c) t.val t rfl d,
    if_neg (by rw [notFresh1_9_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 31 := lt_of_lt_of_eq t.isLt (show cfg1.N = 31 from N_1)
  by_cases h0 : t.val % 31 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_A t ((hcond1_0 t).mpr h0) (fun h => h1 ((hcond1_1 t).mp h))], after1_8]
      rw [show (dat1 V c).leavesExact 9 t = owns (c : Thread nD τ) (ms1_9 t) fullShare ((dat1 V c).after 9 t) from by
      unfold Dat.leavesExact; rw [liveAt1_9_A t ((hcond1_0 t).mpr h0) (fun h => h1 ((hcond1_1 t).mp h))], after1_9]
      rw [outsAt1_A V c t h0 h1]
      unfold out1_A_4 out1_A_5 out1_A_6 out1_A_7 out1_A_8 out1_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, ⟨%e4, H4⟩, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _)
      unfold owns; iexists _; isplitr
      swap; · iexact H9
      ipureintro; exact View.read_writes_of_cover _ _ _ _ _ (cover1_A_9 c _ _ _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_B t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9_B t (fun h => h0 ((hcond1_0 t).mp h)) ((hcond1_1 t).mpr h1)], after1_9]
      rw [outsAt1_B V c t h0 h1]
      simp only [before1_8_B V c t h0 h1, before1_9_B V c t h0 h1]
      unfold out1_B_4 out1_B_5 out1_B_6 out1_B_7 out1_B_8 out1_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, ⟨%e4, H4⟩, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _)
      unfold owns; iexists _; isplitr
      swap; · iexact H9
      ipureintro; exact View.read_writes_of_cover _ _ _ _ _ (cover1_B_9 c _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.KernelFrame.Region2.lean ====
/-
The frame of the printed program `Kernel`: region 2 (the forward product): its blocks, its body's triple, the contents of its output point by point, its proof data.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_fwd` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 3, through which its contents are stated (`View.read_writes_of_cover`: the
    choice does not matter). -/
abbrev VO2_3 : View sig .tc .vmem S64x8x1280 .bf16 := (Memref.whole cc2_stg3_0 : Memref sig .tc .vmem S64x8x1280 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x7936 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S7936x1280 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x8x1280 .bf16 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1 .f32) (harg1 : arg1.IsWhole) (arg2 : Memref sig .tc .vmem S512x7936 .fp8e4m3) (harg2 : arg2.IsWhole) (arg3 : Memref sig .tc .vmem S7936x1280 .fp8e4m3) (harg3 : arg3.IsWhole) (arg4 : Memref sig .tc .vmem S64x8x1280 .bf16) (harg4 : arg4.IsWhole)
    (x0 : Vec F S1 .f32) (x1 : Vec F S512x7936 .fp8e4m3) (x2 : Vec F S7936x1280 .fp8e4m3) :
    { L3 : List (View.Piece (Elt F) S64x8x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2_fwd i arg1 harg1 arg2 harg2 arg3 harg3 arg4 harg4) K } := by
  refine ⟨?_, fun E K => ?run⟩
  case run =>
    simp only [cc2_fwd_eq_skeleton]; unfold cc2_fwd_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (1 store of `S64x8x1280`, checked by the kernel's evaluation: Lib/Ring.lean `Piece.tiledL`, linear in the pieces, through a loop's `@[irreducible]` trip theorem too), so they cover it. -/
theorem cover2_A_3 (c : Dev nD) (i : grid2.Coords) (arg1 : Memref sig .tc .smem S1 .f32) (harg1 : arg1.IsWhole) (arg2 : Memref sig .tc .vmem S512x7936 .fp8e4m3) (harg2 : arg2.IsWhole) (arg3 : Memref sig .tc .vmem S7936x1280 .fp8e4m3) (harg3 : arg3.IsWhole) (arg4 : Memref sig .tc .vmem S64x8x1280 .bf16) (harg4 : arg4.IsWhole)
    (x0 : Vec F S1 .f32) (x1 : Vec F S512x7936 .fp8e4m3) (x2 : Vec F S7936x1280 .fp8e4m3) (y : S64x8x1280.Idx) :
    ∃ pc ∈ (kernelRun2_A c i arg1 harg1 arg2 harg2 arg3 harg3 arg4 harg4 x0 x1 x2).1, y ∈ pc.1.set :=
  View.cover_of_tiledL (kernelRun2_A c i arg1 harg1 arg2 harg2 arg3 harg3 arg4 harg4 x0 x1 x2).1 S64x8x1280.size (by sl_kernel_rfl) y

/-- What the run leaves in output 3's staging buffer: its pieces read back over junk. -/
def out2_A_3 (c : Dev nD) (i : grid2.Coords) (arg1 : Memref sig .tc .smem S1 .f32) (harg1 : arg1.IsWhole) (arg2 : Memref sig .tc .vmem S512x7936 .fp8e4m3) (harg2 : arg2.IsWhole) (arg3 : Memref sig .tc .vmem S7936x1280 .fp8e4m3) (harg3 : arg3.IsWhole) (arg4 : Memref sig .tc .vmem S64x8x1280 .bf16) (harg4 : arg4.IsWhole)
    (x0 : Vec F S1 .f32) (x1 : Vec F S512x7936 .fp8e4m3) (x2 : Vec F S7936x1280 .fp8e4m3) : Vec F S64x8x1280 .bf16 :=
  VO2_3.read (Elt F) (VO2_3.writes (Elt F) VO2_3.junk (kernelRun2_A c i arg1 harg1 arg2 harg2 arg3 harg3 arg4 harg4 x0 x1 x2).1)

/-! ## What the outputs hold after each point -/

/-- What the outputs' staging buffers hold after the body at point `t`: the run's contents at
    the point's memrefs and input blocks. -/
def outsAt2 (c : Dev nD) (t : Fin cfg2.N) : Vec F S64x8x1280 .bf16 :=
  out2_A_3 c (grid2.coords t) (ms2_0 t) (hs2_0 t) (ms2_1 t) (hs2_1 t) (ms2_2 t) (hs2_2 t) (ms2_3 t) (hs2_3 t) (iblk2 V c 0 t) (iblk2 V c 1 t) (iblk2 V c 2 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outsAt2
  unfold out2_A_3
  iintro ⟨HΦ, Ho, ⟨%d0, H0⟩, ⟨%d1, H1⟩, ⟨%d2, H2⟩, ⟨%d3, H3⟩⟩
  iapply ((kernelRun2_A c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.Kernel.Gen

end
-- ==== Proof.KernelFrame.Hosts0.lean ====
/-
The frame of the printed program `Kernel`: the stretches of host operations: which references each writes, and that no argument is among them.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_c, main_cst_0, main_v0, main_v1, main_cst_1, main_v2, main_cst_2, main_v3, main_v4, main_v5, main_v6, main_v7, main_c_3, main_v8, main_cst_4, main_v9, main_cst_5, main_v10, main_v11, main_c_6, main_v12, main_c_7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v13]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_8, main_v14, main_c_9]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_v15]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_cst_10, main_v16, main_cst_11, main_v17, main_v18, main_v19, main_v20, main_v21, main_c_12, main_v22, main_cst_13, main_v23, main_cst_14, main_v24, main_v25, main_c_15, main_v26, main_c_16]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_v27]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_cst_17, main_v28, main_c_18]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_v29]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_cst_19, main_v30, main_cst_20, main_v31, main_v32, main_v33, main_v34, main_v35, main_c_21, main_v36, main_cst_22, main_v37, main_cst_23, main_v38, main_v39, main_c_24, main_v40, main_c_25]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_v41]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_cst_26, main_v42, main_c_27]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps0_11` allocates a buffer. -/
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call5_v0, main_v43]
theorem hostOps0_11_writes : (hostOps0_11 : List (HloOp τ sig (Elt F))).Forall fun op => op.writes ⊆ (hostOps0_11_W.map (Proc.devRef (τ := τ) .tc)).toFinset :=
  StableHlo.forall_writes_sub_of_map rfl
/-- `hostOps0_11` writes none of the argument arrays (checked: each argument against each reference it writes). -/
theorem hostOps0_11_args : ∀ a ∈ argRefs, a ∉ hostOps0_11_W := ListAll.forall_mem_of_all_decide (by decide +kernel)

/-- No operation of `hostOps0_12` allocates a buffer. -/
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_c_28, main_v44, main_v45, main_v46, main_cst_29]
theorem hostOps0_12_writes : (hostOps0_12 : List (HloOp τ sig (Elt F))).Forall fun op => op.writes ⊆ (hostOps0_12_W.map (Proc.devRef (τ := τ) .tc)).toFinset :=
  StableHlo.forall_writes_sub_of_map rfl
/-- `hostOps0_12` writes none of the argument arrays (checked: each argument against each reference it writes). -/
theorem hostOps0_12_args : ∀ a ∈ argRefs, a ∉ hostOps0_12_W := ListAll.forall_mem_of_all_decide (by decide +kernel)

/-- No operation of `hostOps0_13` allocates a buffer. -/
theorem hostOps0_13_fresh : (hostOps0_13 : List (HloOp τ sig (Elt F))).Forall fun op => op.fresh = ∅ := by
  simp only [List.Forall]; repeat' constructor
/-- The reference each operation of `hostOps0_13` writes, in order. -/
abbrev hostOps0_13_W : List (Ref sig .tc) := [main_call6_v0, main_call6_v1, main_v47]
theorem hostOps0_13_writes : (hostOps0_13 : List (HloOp τ sig (Elt F))).Forall fun op => op.writes ⊆ (hostOps0_13_W.map (Proc.devRef (τ := τ) .tc)).toFinset :=
  StableHlo.forall_writes_sub_of_map rfl
/-- `hostOps0_13` writes none of the argument arrays (checked: each argument against each reference it writes). -/
theorem hostOps0_13_args : ∀ a ∈ argRefs, a ∉ hostOps0_13_W := ListAll.forall_mem_of_all_decide (by decide +kernel)

/-- No operation of `hostOps0_14` allocates a buffer. -/
theorem hostOps0_14_fresh : (hostOps0_14 : List (HloOp τ sig (Elt F))).Forall fun op => op.fresh = ∅ := by
  simp only [List.Forall]; repeat' constructor
/-- The reference each operation of `hostOps0_14` writes, in order. -/
abbrev hostOps0_14_W : List (Ref sig .tc) := [main_cst_30, main_v48, main_c_31, main_v49, main_v50, main_v51, main_cst_32]
theorem hostOps0_14_writes : (hostOps0_14 : List (HloOp τ sig (Elt F))).Forall fun op => op.writes ⊆ (hostOps0_14_W.map (Proc.devRef (τ := τ) .tc)).toFinset :=
  StableHlo.forall_writes_sub_of_map rfl
/-- `hostOps0_14` writes none of the argument arrays (checked: each argument against each reference it writes). -/
theorem hostOps0_14_args : ∀ a ∈ argRefs, a ∉ hostOps0_14_W := ListAll.forall_mem_of_all_decide (by decide +kernel)

/-- No operation of `hostOps0_15` allocates a buffer. -/
theorem hostOps0_15_fresh : (hostOps0_15 : List (HloOp τ sig (Elt F))).Forall fun op => op.fresh = ∅ := by
  simp only [List.Forall]; repeat' constructor
/-- The reference each operation of `hostOps0_15` writes, in order. -/
abbrev hostOps0_15_W : List (Ref sig .tc) := [main_call7_v0, main_call7_v1, main_v52]
theorem hostOps0_15_writes : (hostOps0_15 : List (HloOp τ sig (Elt F))).Forall fun op => op.writes ⊆ (hostOps0_15_W.map (Proc.devRef (τ := τ) .tc)).toFinset :=
  StableHlo.forall_writes_sub_of_map rfl
/-- `hostOps0_15` writes none of the argument arrays (checked: each argument against each reference it writes). -/
theorem hostOps0_15_args : ∀ a ∈ argRefs, a ∉ hostOps0_15_W := ListAll.forall_mem_of_all_decide (by decide +kernel)

/-- No operation of `hostOps0_16` allocates a buffer. -/
theorem hostOps0_16_fresh : (hostOps0_16 : List (HloOp τ sig (Elt F))).Forall fun op => op.fresh = ∅ := by
  simp only [List.Forall]; repeat' constructor
/-- The reference each operation of `hostOps0_16` writes, in order. -/
abbrev hostOps0_16_W : List (Ref sig .tc) := [main_cst_33, main_v53, main_c_34, main_v54, main_v55, main_v56, main_cst_35]
theorem hostOps0_16_writes : (hostOps0_16 : List (HloOp τ sig (Elt F))).Forall fun op => op.writes ⊆ (hostOps0_16_W.map (Proc.devRef (τ := τ) .tc)).toFinset :=
  StableHlo.forall_writes_sub_of_map rfl
/-- `hostOps0_16` writes none of the argument arrays (checked: each argument against each reference it writes). -/
theorem hostOps0_16_args : ∀ a ∈ argRefs, a ∉ hostOps0_16_W := ListAll.forall_mem_of_all_decide (by decide +kernel)

/-- No operation of `hostOps0_17` allocates a buffer. -/
theorem hostOps0_17_fresh : (hostOps0_17 : List (HloOp τ sig (Elt F))).Forall fun op => op.fresh = ∅ := by
  simp only [List.Forall]; repeat' constructor
/-- The reference each operation of `hostOps0_17` writes, in order. -/
abbrev hostOps0_17_W : List (Ref sig .tc) := [main_call8_v0, main_call8_v1, main_v57]
theorem hostOps0_17_writes : (hostOps0_17 : List (HloOp τ sig (Elt F))).Forall fun op => op.writes ⊆ (hostOps0_17_W.map (Proc.devRef (τ := τ) .tc)).toFinset :=
  StableHlo.forall_writes_sub_of_map rfl
/-- `hostOps0_17` writes none of the argument arrays (checked: each argument against each reference it writes). -/
theorem hostOps0_17_args : ∀ a ∈ argRefs, a ∉ hostOps0_17_W := ListAll.forall_mem_of_all_decide (by decide +kernel)

/-- No operation of `hostOps0_18` allocates a buffer. -/
theorem hostOps0_18_fresh : (hostOps0_18 : List (HloOp τ sig (Elt F))).Forall fun op => op.fresh = ∅ := by
  simp only [List.Forall]; repeat' constructor
/-- The reference each operation of `hostOps0_18` writes, in order. -/
abbrev hostOps0_18_W : List (Ref sig .tc) := [main_cst_36, main_v58, main_v59, main_c_37, main_v60, main_v61, main_v62, main_cst_38]
theorem hostOps0_18_writes : (hostOps0_18 : List (HloOp τ sig (Elt F))).Forall fun op => op.writes ⊆ (hostOps0_18_W.map (Proc.devRef (τ := τ) .tc)).toFinset :=
  StableHlo.forall_writes_sub_of_map rfl
/-- `hostOps0_18` writes none of the argument arrays (checked: each argument against each reference it writes). -/
theorem hostOps0_18_args : ∀ a ∈ argRefs, a ∉ hostOps0_18_W := ListAll.forall_mem_of_all_decide (by decide +kernel)

/-- No operation of `hostOps0_19` allocates a buffer. -/
theorem hostOps0_19_fresh : (hostOps0_19 : List (HloOp τ sig (Elt F))).Forall fun op => op.fresh = ∅ := by
  simp only [List.Forall]; repeat' constructor
/-- The reference each operation of `hostOps0_19` writes, in order. -/
abbrev hostOps0_19_W : List (Ref sig .tc) := [main_call9_v0, main_call9_v1, main_v63]
theorem hostOps0_19_writes : (hostOps0_19 : List (HloOp τ sig (Elt F))).Forall fun op => op.writes ⊆ (hostOps0_19_W.map (Proc.devRef (τ := τ) .tc)).toFinset :=
  StableHlo.forall_writes_sub_of_map rfl
/-- `hostOps0_19` writes none of the argument arrays (checked: each argument against each reference it writes). -/
theorem hostOps0_19_args : ∀ a ∈ argRefs, a ∉ hostOps0_19_W := ListAll.forall_mem_of_all_decide (by decide +kernel)

/-- No operation of `hostOps0_20` allocates a buffer. -/
theorem hostOps0_20_fresh : (hostOps0_20 : List (HloOp τ sig (Elt F))).Forall fun op => op.fresh = ∅ := by
  simp only [List.Forall]; repeat' constructor
/-- The reference each operation of `hostOps0_20` writes, in order. -/
abbrev hostOps0_20_W : List (Ref sig .tc) := [main_cst_39, main_v64, main_v65, main_c_40, main_v66, main_v67, main_v68, main_cst_41]
theorem hostOps0_20_writes : (hostOps0_20 : List (HloOp τ sig (Elt F))).Forall fun op => op.writes ⊆ (hostOps0_20_W.map (Proc.devRef (τ := τ) .tc)).toFinset :=
  StableHlo.forall_writes_sub_of_map rfl
/-- `hostOps0_20` writes none of the argument arrays (checked: each argument against each reference it writes). -/
theorem hostOps0_20_args : ∀ a ∈ argRefs, a ∉ hostOps0_20_W := ListAll.forall_mem_of_all_decide (by decide +kernel)

/-- No operation of `hostOps0_21` allocates a buffer. -/
theorem hostOps0_21_fresh : (hostOps0_21 : List (HloOp τ sig (Elt F))).Forall fun op => op.fresh = ∅ := by
  simp only [List.Forall]; repeat' constructor
/-- The reference each operation of `hostOps0_21` writes, in order. -/
abbrev hostOps0_21_W : List (Ref sig .tc) := [main_call10_v0, main_call10_v1, main_v69]
theorem hostOps0_21_writes : (hostOps0_21 : List (HloOp τ sig (Elt F))).Forall fun op => op.writes ⊆ (hostOps0_21_W.map (Proc.devRef (τ := τ) .tc)).toFinset :=
  StableHlo.forall_writes_sub_of_map rfl
/-- `hostOps0_21` writes none of the argument arrays (checked: each argument against each reference it writes). -/
theorem hostOps0_21_args : ∀ a ∈ argRefs, a ∉ hostOps0_21_W := ListAll.forall_mem_of_all_decide (by decide +kernel)

/-- No operation of `hostOps0_22` allocates a buffer. -/
theorem hostOps0_22_fresh : (hostOps0_22 : List (HloOp τ sig (Elt F))).Forall fun op => op.fresh = ∅ := by
  simp only [List.Forall]; repeat' constructor
/-- The reference each operation of `hostOps0_22` writes, in order. -/
abbrev hostOps0_22_W : List (Ref sig .tc) := [main_cst_42, main_v70, main_v71, main_c_43, main_v72, main_v73, main_v74, main_cst_44]
theorem hostOps0_22_writes : (hostOps0_22 : List (HloOp τ sig (Elt F))).Forall fun op => op.writes ⊆ (hostOps0_22_W.map (Proc.devRef (τ := τ) .tc)).toFinset :=
  StableHlo.forall_writes_sub_of_map rfl
/-- `hostOps0_22` writes none of the argument arrays (checked: each argument against each reference it writes). -/
theorem hostOps0_22_args : ∀ a ∈ argRefs, a ∉ hostOps0_22_W := ListAll.forall_mem_of_all_decide (by decide +kernel)

/-- No operation of `hostOps0_23` allocates a buffer. -/
theorem hostOps0_23_fresh : (hostOps0_23 : List (HloOp τ sig (Elt F))).Forall fun op => op.fresh = ∅ := by
  simp only [List.Forall]; repeat' constructor
/-- The reference each operation of `hostOps0_23` writes, in order. -/
abbrev hostOps0_23_W : List (Ref sig .tc) := [main_call11_v0, main_call11_v1, main_v75]
theorem hostOps0_23_writes : (hostOps0_23 : List (HloOp τ sig (Elt F))).Forall fun op => op.writes ⊆ (hostOps0_23_W.map (Proc.devRef (τ := τ) .tc)).toFinset :=
  StableHlo.forall_writes_sub_of_map rfl
/-- `hostOps0_23` writes none of the argument arrays (checked: each argument against each reference it writes). -/
theorem hostOps0_23_args : ∀ a ∈ argRefs, a ∉ hostOps0_23_W := ListAll.forall_mem_of_all_decide (by decide +kernel)

/-- No operation of `hostOps0_24` allocates a buffer. -/
theorem hostOps0_24_fresh : (hostOps0_24 : List (HloOp τ sig (Elt F))).Forall fun op => op.fresh = ∅ := by
  simp only [List.Forall]; repeat' constructor
/-- The reference each operation of `hostOps0_24` writes, in order. -/
abbrev hostOps0_24_W : List (Ref sig .tc) := [main_cst_45, main_v76, main_v77]
theorem hostOps0_24_writes : (hostOps0_24 : List (HloOp τ sig (Elt F))).Forall fun op => op.writes ⊆ (hostOps0_24_W.map (Proc.devRef (τ := τ) .tc)).toFinset :=
  StableHlo.forall_writes_sub_of_map rfl
/-- `hostOps0_24` writes none of the argument arrays (checked: each argument against each reference it writes). -/
theorem hostOps0_24_args : ∀ a ∈ argRefs, a ∉ hostOps0_24_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v79, main_v80, main_v81, main_v82, main_v83, main_v84, main_v85]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v87, main_v88]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v90, main_v91, main_v92, main_cst_46, main_v93, main_v94, main_v95, main_v96, main_cst_47, main_v97, main_v98, main_v99, main_v100, main_cst_48, main_v101, main_v102, main_v103, main_v104, main_v105]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.Kernel.Gen

end
-- ==== Proof.KernelFrame.Fold0.lean ====
/-
The frame of the printed program `Kernel`: the buffer contents at every boundary between two segments, as a fold from the launch memory.
-/
module

public import proofs.«01_k».proof.Proof.KernelFrame.Region0
public import proofs.«01_k».proof.Proof.KernelFrame.Region1
public import proofs.«01_k».proof.Proof.KernelFrame.Region2
public import proofs.«01_k».proof.Proof.KernelFrame.Hosts0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18`. -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- After `hostOps0_19`. -/
abbrev W20 : Dev nD → Valuation τ sig (Elt F) := fun c => StableHlo.after hostOps0_19 (W19 m ρ c)
/-- A reference `hostOps0_19` does not write keeps its contents across it. -/
theorem W20_of (c : Dev nD) (r : Ref sig .tc) (h : r ∉ hostOps0_19_W) : W20 m ρ c (Proc.devRef .tc r) = W19 m ρ c (Proc.devRef .tc r) :=
  StableHlo.after_of_writes_sub hostOps0_19 _ hostOps0_19_writes h
theorem W20_args (c : Dev nD) : ∀ a ∈ argRefs, W20 m ρ c (Proc.devRef .tc a) = m ((c : Thread nD τ).loc a) :=
  fun a ha => (W20_of m ρ c a (hostOps0_19_args a ha)).trans (W19_args m ρ c a ha)
/-- After `hostOps0_20`. -/
abbrev W21 : Dev nD → Valuation τ sig (Elt F) := fun c => StableHlo.after hostOps0_20 (W20 m ρ c)
/-- A reference `hostOps0_20` does not write keeps its contents across it. -/
theorem W21_of (c : Dev nD) (r : Ref sig .tc) (h : r ∉ hostOps0_20_W) : W21 m ρ c (Proc.devRef .tc r) = W20 m ρ c (Proc.devRef .tc r) :=
  StableHlo.after_of_writes_sub hostOps0_20 _ hostOps0_20_writes h
theorem W21_args (c : Dev nD) : ∀ a ∈ argRefs, W21 m ρ c (Proc.devRef .tc a) = m ((c : Thread nD τ).loc a) :=
  fun a ha => (W21_of m ρ c a (hostOps0_20_args a ha)).trans (W20_args m ρ c a ha)
/-- After `hostOps0_21`. -/
abbrev W22 : Dev nD → Valuation τ sig (Elt F) := fun c => StableHlo.after hostOps0_21 (W21 m ρ c)
/-- A reference `hostOps0_21` does not write keeps its contents across it. -/
theorem W22_of (c : Dev nD) (r : Ref sig .tc) (h : r ∉ hostOps0_21_W) : W22 m ρ c (Proc.devRef .tc r) = W21 m ρ c (Proc.devRef .tc r) :=
  StableHlo.after_of_writes_sub hostOps0_21 _ hostOps0_21_writes h
theorem W22_args (c : Dev nD) : ∀ a ∈ argRefs, W22 m ρ c (Proc.devRef .tc a) = m ((c : Thread nD τ).loc a) :=
  fun a ha => (W22_of m ρ c a (hostOps0_21_args a ha)).trans (W21_args m ρ c a ha)
/-- After `hostOps0_22`. -/
abbrev W23 : Dev nD → Valuation τ sig (Elt F) := fun c => StableHlo.after hostOps0_22 (W22 m ρ c)
/-- A reference `hostOps0_22` does not write keeps its contents across it. -/
theorem W23_of (c : Dev nD) (r : Ref sig .tc) (h : r ∉ hostOps0_22_W) : W23 m ρ c (Proc.devRef .tc r) = W22 m ρ c (Proc.devRef .tc r) :=
  StableHlo.after_of_writes_sub hostOps0_22 _ hostOps0_22_writes h
theorem W23_args (c : Dev nD) : ∀ a ∈ argRefs, W23 m ρ c (Proc.devRef .tc a) = m ((c : Thread nD τ).loc a) :=
  fun a ha => (W23_of m ρ c a (hostOps0_22_args a ha)).trans (W22_args m ρ c a ha)
/-- After `hostOps0_23`. -/
abbrev W24 : Dev nD → Valuation τ sig (Elt F) := fun c => StableHlo.after hostOps0_23 (W23 m ρ c)
/-- A reference `hostOps0_23` does not write keeps its contents across it. -/
theorem W24_of (c : Dev nD) (r : Ref sig .tc) (h : r ∉ hostOps0_23_W) : W24 m ρ c (Proc.devRef .tc r) = W23 m ρ c (Proc.devRef .tc r) :=
  StableHlo.after_of_writes_sub hostOps0_23 _ hostOps0_23_writes h
theorem W24_args (c : Dev nD) : ∀ a ∈ argRefs, W24 m ρ c (Proc.devRef .tc a) = m ((c : Thread nD τ).loc a) :=
  fun a ha => (W24_of m ρ c a (hostOps0_23_args a ha)).trans (W23_args m ρ c a ha)
/-- After `hostOps0_24` (region 0's entry). -/
abbrev W25 : Dev nD → Valuation τ sig (Elt F) := fun c => StableHlo.after hostOps0_24 (W24 m ρ c)
/-- A reference `hostOps0_24` does not write keeps its contents across it. -/
theorem W25_of (c : Dev nD) (r : Ref sig .tc) (h : r ∉ hostOps0_24_W) : W25 m ρ c (Proc.devRef .tc r) = W24 m ρ c (Proc.devRef .tc r) :=
  StableHlo.after_of_writes_sub hostOps0_24 _ hostOps0_24_writes h
theorem W25_args (c : Dev nD) : ∀ a ∈ argRefs, W25 m ρ c (Proc.devRef .tc a) = m ((c : Thread nD τ).loc a) :=
  fun a ha => (W25_of m ρ c a (hostOps0_24_args a ha)).trans (W24_args m ρ c a ha)
/-- The same read at the TensorCore's references (what region 0's proof data take). -/
abbrev V25 : (c : Dev nD) → (b : Ref sig .tc) → Buf (Elt F) ((c : Thread nD τ).loc b) := fun c b => W25 m ρ c b
/-- At region 0's exit: its arrays at what the pipeline leaves (the inputs as entered, each output's write-backs
    folded: `Dat.arrAt … N`), every other buffer as entered (Lib/Pipeline/FrameSuffix.lean `withArrays`). -/
def W26 (c : Dev nD) : Valuation τ sig (Elt F) :=
  Pipeline.withArrays spec0 c (W25 m ρ c) fun w => (dat0 (V25 m ρ) c).arrAt w cfg0.N
theorem W26_arr (c : Dev nD) (w : Fin cfg0.W) :
    W26 m ρ c (Proc.devRef .tc (Pipeline.arrRef spec0 w)) = (dat0 (V25 m ρ) c).arrAt w cfg0.N := by
  unfold W26; exact Pipeline.withArrays_arr spec0 launch0.win.arr_inj c _ _ w
theorem W26_of_ne (c : Dev nD) (b : Ref sig .tc) (hb : ∀ w, Pipeline.arrRef spec0 w ≠ b) :
    W26 m ρ c (Proc.devRef .tc b) = W25 m ρ c (Proc.devRef .tc b) := by
  unfold W26; exact Pipeline.withArrays_of_ne spec0 c _ _ b hb
/-- A reference that is none of region 0's OUTPUT arrays keeps its entry contents across it: an input window's
    array is never written back (`Dat.arrAt_in`, `A_eq0`); any other buffer is left as is. -/
theorem W26_of (c : Dev nD) (r : Ref sig .tc) (h : ∀ w : Fin cfg0.W, Pipeline.arrRef spec0 w = r → (cfg0.win w).isOut = false) :
    W26 m ρ c (Proc.devRef .tc r) = W25 m ρ c (Proc.devRef .tc r) := by
  by_cases hw : ∃ w : Fin cfg0.W, Pipeline.arrRef spec0 w = r
  · obtain ⟨w, rfl⟩ := hw
    exact (W26_arr m ρ c w).trans (((dat0 (V25 m ρ) c).arrAt_in w (h w rfl) _).trans (A_eq0 (V25 m ρ) c w))
  · exact W26_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W26_args (c : Dev nD) : ∀ a ∈ argRefs, W26 m ρ c (Proc.devRef .tc a) = m ((c : Thread nD τ).loc a) :=
  fun a ha => (W26_of m ρ c a (argsIn0 a ha)).trans (W25_args m ρ c a ha)
/-- The same read at the TensorCore's references (region 0's exit contents). -/
abbrev V26 : (c : Dev nD) → (b : Ref sig .tc) → Buf (Elt F) ((c : Thread nD τ).loc b) := fun c b => W26 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V25 m ρ) c).arrAt w cfg0.N = V26 m ρ c (Pipeline.arrRef spec0 w) :=
  (W26_arr m ρ c w).symm
theorem hrest0 (c : Dev nD) : ∀ b, b ∉ Finset.univ.image (Pipeline.arrRef spec0) → V26 m ρ c b = V25 m ρ c b :=
  fun b hb => W26_of_ne m ρ c b fun w e => hb (Finset.mem_image.mpr ⟨w, Finset.mem_univ _, e⟩)

/-- After `hostOps1` (region 1's entry). -/
abbrev W27 : Dev nD → Valuation τ sig (Elt F) := fun c => StableHlo.after hostOps1 (W26 m ρ c)
/-- A reference `hostOps1` does not write keeps its contents across it. -/
theorem W27_of (c : Dev nD) (r : Ref sig .tc) (h : r ∉ hostOps1_W) : W27 m ρ c (Proc.devRef .tc r) = W26 m ρ c (Proc.devRef .tc r) :=
  StableHlo.after_of_writes_sub hostOps1 _ hostOps1_writes h
theorem W27_args (c : Dev nD) : ∀ a ∈ argRefs, W27 m ρ c (Proc.devRef .tc a) = m ((c : Thread nD τ).loc a) :=
  fun a ha => (W27_of m ρ c a (hostOps1_args a ha)).trans (W26_args m ρ c a ha)
/-- The same read at the TensorCore's references (what region 1's proof data take). -/
abbrev V27 : (c : Dev nD) → (b : Ref sig .tc) → Buf (Elt F) ((c : Thread nD τ).loc b) := fun c b => W27 m ρ c b
/-- At region 1's exit: its arrays at what the pipeline leaves (the inputs as entered, each output's write-backs
    folded: `Dat.arrAt … N`), every other buffer as entered (Lib/Pipeline/FrameSuffix.lean `withArrays`). -/
def W28 (c : Dev nD) : Valuation τ sig (Elt F) :=
  Pipeline.withArrays spec1 c (W27 m ρ c) fun w => (dat1 (V27 m ρ) c).arrAt w cfg1.N
theorem W28_arr (c : Dev nD) (w : Fin cfg1.W) :
    W28 m ρ c (Proc.devRef .tc (Pipeline.arrRef spec1 w)) = (dat1 (V27 m ρ) c).arrAt w cfg1.N := by
  unfold W28; exact Pipeline.withArrays_arr spec1 launch1.win.arr_inj c _ _ w
theorem W28_of_ne (c : Dev nD) (b : Ref sig .tc) (hb : ∀ w, Pipeline.arrRef spec1 w ≠ b) :
    W28 m ρ c (Proc.devRef .tc b) = W27 m ρ c (Proc.devRef .tc b) := by
  unfold W28; exact Pipeline.withArrays_of_ne spec1 c _ _ b hb
/-- A reference that is none of region 1's OUTPUT arrays keeps its entry contents across it: an input window's
    array is never written back (`Dat.arrAt_in`, `A_eq1`); any other buffer is left as is. -/
theorem W28_of (c : Dev nD) (r : Ref sig .tc) (h : ∀ w : Fin cfg1.W, Pipeline.arrRef spec1 w = r → (cfg1.win w).isOut = false) :
    W28 m ρ c (Proc.devRef .tc r) = W27 m ρ c (Proc.devRef .tc r) := by
  by_cases hw : ∃ w : Fin cfg1.W, Pipeline.arrRef spec1 w = r
  · obtain ⟨w, rfl⟩ := hw
    exact (W28_arr m ρ c w).trans (((dat1 (V27 m ρ) c).arrAt_in w (h w rfl) _).trans (A_eq1 (V27 m ρ) c w))
  · exact W28_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W28_args (c : Dev nD) : ∀ a ∈ argRefs, W28 m ρ c (Proc.devRef .tc a) = m ((c : Thread nD τ).loc a) :=
  fun a ha => (W28_of m ρ c a (argsIn1 a ha)).trans (W27_args m ρ c a ha)
/-- The same read at the TensorCore's references (region 1's exit contents). -/
abbrev V28 : (c : Dev nD) → (b : Ref sig .tc) → Buf (Elt F) ((c : Thread nD τ).loc b) := fun c b => W28 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V27 m ρ) c).arrAt w cfg1.N = V28 m ρ c (Pipeline.arrRef spec1 w) :=
  (W28_arr m ρ c w).symm
theorem hrest1 (c : Dev nD) : ∀ b, b ∉ Finset.univ.image (Pipeline.arrRef spec1) → V28 m ρ c b = V27 m ρ c b :=
  fun b hb => W28_of_ne m ρ c b fun w e => hb (Finset.mem_image.mpr ⟨w, Finset.mem_univ _, e⟩)

/-- After `hostOps2` (region 2's entry). -/
abbrev W29 : Dev nD → Valuation τ sig (Elt F) := fun c => StableHlo.after hostOps2 (W28 m ρ c)
/-- A reference `hostOps2` does not write keeps its contents across it. -/
theorem W29_of (c : Dev nD) (r : Ref sig .tc) (h : r ∉ hostOps2_W) : W29 m ρ c (Proc.devRef .tc r) = W28 m ρ c (Proc.devRef .tc r) :=
  StableHlo.after_of_writes_sub hostOps2 _ hostOps2_writes h
theorem W29_args (c : Dev nD) : ∀ a ∈ argRefs, W29 m ρ c (Proc.devRef .tc a) = m ((c : Thread nD τ).loc a) :=
  fun a ha => (W29_of m ρ c a (hostOps2_args a ha)).trans (W28_args m ρ c a ha)
/-- The same read at the TensorCore's references (what region 2's proof data take). -/
abbrev V29 : (c : Dev nD) → (b : Ref sig .tc) → Buf (Elt F) ((c : Thread nD τ).loc b) := fun c b => W29 m ρ c b
/-- At region 2's exit: its arrays at what the pipeline leaves (the inputs as entered, each output's write-backs
    folded: `Dat.arrAt … N`), every other buffer as entered (Lib/Pipeline/FrameSuffix.lean `withArrays`). -/
def W30 (c : Dev nD) : Valuation τ sig (Elt F) :=
  Pipeline.withArrays spec2 c (W29 m ρ c) fun w => (dat2 (V29 m ρ) c).arrAt w cfg2.N
theorem W30_arr (c : Dev nD) (w : Fin cfg2.W) :
    W30 m ρ c (Proc.devRef .tc (Pipeline.arrRef spec2 w)) = (dat2 (V29 m ρ) c).arrAt w cfg2.N := by
  unfold W30; exact Pipeline.withArrays_arr spec2 launch2.win.arr_inj c _ _ w
theorem W30_of_ne (c : Dev nD) (b : Ref sig .tc) (hb : ∀ w, Pipeline.arrRef spec2 w ≠ b) :
    W30 m ρ c (Proc.devRef .tc b) = W29 m ρ c (Proc.devRef .tc b) := by
  unfold W30; exact Pipeline.withArrays_of_ne spec2 c _ _ b hb
/-- A reference that is none of region 2's OUTPUT arrays keeps its entry contents across it: an input window's
    array is never written back (`Dat.arrAt_in`, `A_eq2`); any other buffer is left as is. -/
theorem W30_of (c : Dev nD) (r : Ref sig .tc) (h : ∀ w : Fin cfg2.W, Pipeline.arrRef spec2 w = r → (cfg2.win w).isOut = false) :
    W30 m ρ c (Proc.devRef .tc r) = W29 m ρ c (Proc.devRef .tc r) := by
  by_cases hw : ∃ w : Fin cfg2.W, Pipeline.arrRef spec2 w = r
  · obtain ⟨w, rfl⟩ := hw
    exact (W30_arr m ρ c w).trans (((dat2 (V29 m ρ) c).arrAt_in w (h w rfl) _).trans (A_eq2 (V29 m ρ) c w))
  · exact W30_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W30_args (c : Dev nD) : ∀ a ∈ argRefs, W30 m ρ c (Proc.devRef .tc a) = m ((c : Thread nD τ).loc a) :=
  fun a ha => (W30_of m ρ c a (argsIn2 a ha)).trans (W29_args m ρ c a ha)
/-- The same read at the TensorCore's references (region 2's exit contents). -/
abbrev V30 : (c : Dev nD) → (b : Ref sig .tc) → Buf (Elt F) ((c : Thread nD τ).loc b) := fun c b => W30 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V29 m ρ) c).arrAt w cfg2.N = V30 m ρ c (Pipeline.arrRef spec2 w) :=
  (W30_arr m ρ c w).symm
theorem hrest2 (c : Dev nD) : ∀ b, b ∉ Finset.univ.image (Pipeline.arrRef spec2) → V30 m ρ c b = V29 m ρ c b :=
  fun b hb => W30_of_ne m ρ c b fun w e => hb (Finset.mem_image.mpr ⟨w, Finset.mem_univ _, e⟩)

/-- After `hostOps3`. -/
abbrev W31 : Dev nD → Valuation τ sig (Elt F) := fun c => StableHlo.after hostOps3 (W30 m ρ c)
/-- A reference `hostOps3` does not write keeps its contents across it. -/
theorem W31_of (c : Dev nD) (r : Ref sig .tc) (h : r ∉ hostOps3_W) : W31 m ρ c (Proc.devRef .tc r) = W30 m ρ c (Proc.devRef .tc r) :=
  StableHlo.after_of_writes_sub hostOps3 _ hostOps3_writes h
theorem W31_args (c : Dev nD) : ∀ a ∈ argRefs, W31 m ρ c (Proc.devRef .tc a) = m ((c : Thread nD τ).loc a) :=
  fun a ha => (W31_of m ρ c a (hostOps3_args a ha)).trans (W30_args m ρ c a ha)

/-! ### The arguments end as launched: no host stretch writes one and no region may change one (a region reads it
    through an input window or bypasses it) -/

theorem W31_main_arg0 (c : Dev nD) : W31 m ρ c (Proc.devRef .tc main_arg0) = m ((c : Thread nD τ).loc main_arg0) :=
  W31_args m ρ c main_arg0 (by decide)
theorem W31_main_arg1 (c : Dev nD) : W31 m ρ c (Proc.devRef .tc main_arg1) = m ((c : Thread nD τ).loc main_arg1) :=
  W31_args m ρ c main_arg1 (by decide)
theorem W31_main_arg2 (c : Dev nD) : W31 m ρ c (Proc.devRef .tc main_arg2) = m ((c : Thread nD τ).loc main_arg2) :=
  W31_args m ρ c main_arg2 (by decide)
theorem W31_main_arg3 (c : Dev nD) : W31 m ρ c (Proc.devRef .tc main_arg3) = m ((c : Thread nD τ).loc main_arg3) :=
  W31_args m ρ c main_arg3 (by decide)
theorem W31_main_arg4 (c : Dev nD) : W31 m ρ c (Proc.devRef .tc main_arg4) = m ((c : Thread nD τ).loc main_arg4) :=
  W31_args m ρ c main_arg4 (by decide)
theorem W31_main_arg5 (c : Dev nD) : W31 m ρ c (Proc.devRef .tc main_arg5) = m ((c : Thread nD τ).loc main_arg5) :=
  W31_args m ρ c main_arg5 (by decide)
end Cert.Kernel.Gen

end
-- ==== Proof.KernelFrame.State.lean ====
/-
The frame of the printed program `Kernel`: the proof data of all pipelines and the state of the thread between two segments.
-/
module

public import proofs.«01_k».proof.Proof.KernelFrame.Fold0

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V25 m ρ) c
  | ⟨1, _⟩ => fun c => dat1 (V27 m ρ) c
  | ⟨2, _⟩ => fun c => dat2 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W31`, the generator register at some state. -/
abbrev Tₙ (c : Dev nD) : sProp 𝕄 := iprop(StableHlo.held (c : Thread nD τ) (Pipeline.ucRefs τ sig) (W31 m ρ c) ∗ ∃ r, prngReg c r)

end Cert.Kernel.Gen

end
-- ==== Proof.KernelFrame.Record0.lean ====
/-
The frame of the printed program `Kernel`: region 0 as a segment of the run.
-/
module

public import proofs.«01_k».proof.Proof.KernelFrame.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W25`, left at `W26`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V25 m ρ) c).loose
  hwaits := Pipeline.hwaits_of_owed_zero _ _ _ _ L lv 0 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec0 c (V25 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V25 m ρ c) (A_eq0 (V25 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V25 m ρ c) (V26 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelFrame.Record1.lean ====
/-
The frame of the printed program `Kernel`: region 1 as a segment of the run.
-/
module

public import proofs.«01_k».proof.Proof.KernelFrame.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W27`, left at `W28`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V27 m ρ) c).loose
  hwaits := Pipeline.hwaits_of_owed_zero _ _ _ _ L lv 1 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec1 c (V27 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V27 m ρ c) (A_eq1 (V27 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V27 m ρ c) (V28 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelFrame.Record2.lean ====
/-
The frame of the printed program `Kernel`: region 2 as a segment of the run.
-/
module

public import proofs.«01_k».proof.Proof.KernelFrame.State

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W29`, left at `W30`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V29 m ρ) c).loose
  hwaits := Pipeline.hwaits_of_owed_zero _ _ _ _ L lv 2 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec2 c (V29 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V29 m ρ c) (A_eq2 (V29 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V29 m ρ c) (V30 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelFrame.lean ====
/-
The frame of the printed program `Kernel`: the segments in order and the frame of the whole program.
-/
module

public import proofs.«01_k».proof.Proof.KernelFrame.Record0
public import proofs.«01_k».proof.Proof.KernelFrame.Record1
public import proofs.«01_k».proof.Proof.KernelFrame.Record2

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 31 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .region (reg0 m ρ),
    .host (hseg hostOps1 hostOps1_sub hostOps1_fresh (W26 m ρ)),
    .region (reg1 m ρ),
    .host (hseg hostOps2 hostOps2_sub hostOps2_fresh (W28 m ρ)),
    .region (reg2 m ρ),
    .host (hseg hostOps3 hostOps3_sub hostOps3_fresh (W30 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W31_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h hz => ⟨(fun c =>
      ⟨(h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.Kernel.Gen

end
-- ==== Proof.KernelIdealFrame.Region0.lean ====
/-
The frame of the printed program `KernelIdeal`: region 0 (the quantisation of dy): its blocks, its body's triple in each case, the contents of its outputs point by point, its proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_dy` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0_0, k0_cond1, e0]
    word_cmp
   : ∀ t : Fin grid0.N, cond0_0 (grid0.coords t) ↔ t.val % 6 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x20 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → ¬cond0_1 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → cond0_1 (grid0.coords t) → cfg0.idle 3 (grid0.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cond0_1 (grid0.coords t) → cfg0.fresh 3 t.val = false := by
  intro t; rw [fresh0_3_eq t]; revert t; decide +kernel

/-! ## The kernel body on any staging memrefs: a subtype the run finds -/

/-- One staging buffer of output window 2, through which its contents are stated (`View.read_writes_of_cover`: the
    choice does not matter). -/
abbrev VO0_2 : View sig .tc .vmem S1024x1280 .fp8e5m2 := (Memref.whole cc0_stg2_0 : Memref sig .tc .vmem S1024x1280 .fp8e5m2).view
/-- One staging buffer of output window 3, through which its contents are stated (`View.read_writes_of_cover`: the
    choice does not matter). -/
abbrev VO0_3 : View sig .tc .vmem S8x1280 .f32 := (Memref.whole cc0_stg3_0 : Memref sig .tc .vmem S8x1280 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1280 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1280 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1280 .f32 := win0_3.stage (cfg0.slots t 3)
abbrev hs0_3 (t : Fin cfg0.N) : (ms0_3 t).IsWhole := hstage0_3 ((cfg0.slots t 3).cast nbuf0_3)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) :
    Σ' (L2 : List (View.Piece (Elt F) S1024x1280 .fp8e5m2)), { L3 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_dy i arg1 harg1 arg2 harg2 arg3 harg3 arg4 harg4) K } := by
  refine ⟨?_, ?_, fun E K => ?run⟩
  case run =>
    simp only [cc0_quant_dy_eq_skeleton]; unfold cc0_quant_dy_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case A's pieces for output 2 tile its block (1 store of `S1024x1280`, checked by the kernel's evaluation: Lib/Ring.lean `Piece.tiledL`, linear in the pieces, through a loop's `@[irreducible]` trip theorem too), so they cover it. -/
theorem cover0_A_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) (y : S1024x1280.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1024x1280.size (by sl_kernel_rfl) y

/-- What case A leaves in output 2's staging buffer: its pieces read back over junk. -/
def out0_A_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) : Vec F S1024x1280 .fp8e5m2 :=
  VO0_2.read (Elt F) (VO0_2.writes (Elt F) VO0_2.junk (kernelRun0_A c i arg1 harg1 arg2 harg2 arg3 harg3 arg4 harg4 hc0 hc1 x0 x1).1)

/-- Case A's pieces for output 3 tile its block (1 store of `S8x1280`, checked by the kernel's evaluation: Lib/Ring.lean `Piece.tiledL`, linear in the pieces, through a loop's `@[irreducible]` trip theorem too), so they cover it. -/
theorem cover0_A_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) (y : S8x1280.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S8x1280.size (by sl_kernel_rfl) y

/-- What case A leaves in output 3's staging buffer: its pieces read back over junk. -/
def out0_A_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : cond0_0 i) (hc1 : ¬cond0_1 i)
    (x0 : Vec F S1 .f32) (x1 : Vec F S1024x1280 .bf16) : Vec F S8x1280 .f32 :=
  VO0_3.read (Elt F) (VO0_3.writes (Elt F) VO0_3.junk (kernelRun0_A c i arg1 harg1 arg2 harg2 arg3 harg3 arg4 harg4 hc0 hc1 x0 x1).2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, 3, 4, 5), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) :
    Σ' (L2 : List (View.Piece (Elt F) S1024x1280 .fp8e5m2)), { L3 : List (View.Piece (Elt F) S8x1280 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xo3
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0_quant_dy i arg1 harg1 arg2 harg2 arg3 harg3 arg4 harg4) K } := by
  refine ⟨?_, ?_, fun E K => ?run⟩
  case run =>
    simp only [cc0_quant_dy_eq_skeleton]; unfold cc0_quant_dy_skel
    unfold owns
    iintro ⟨⟨%f0, %hf0, H0⟩, ⟨%f1, %hf1, H1⟩, ⟨%d2, %f2, -, H2⟩, ⟨%f3, %hf3, H3⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

/-- Case B's pieces for output 2 tile its block (1 store of `S1024x1280`, checked by the kernel's evaluation: Lib/Ring.lean `Piece.tiledL`, linear in the pieces, through a loop's `@[irreducible]` trip theorem too), so they cover it. -/
theorem cover0_B_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) (y : S1024x1280.Idx) :
    ∃ pc ∈ (kernelRun0_B c i arg1 harg1 arg2 harg2 arg3 harg3 arg4 harg4 hc0 hc1 x0 x1 xo3).1, y ∈ pc.1.set :=
  View.cover_of_tiledL (kernelRun0_B c i arg1 harg1 arg2 harg2 arg3 harg3 arg4 harg4 hc0 hc1 x0 x1 xo3).1 S1024x1280.size (by sl_kernel_rfl) y

/-- What case B leaves in output 2's staging buffer: its pieces read back over junk. -/
def out0_B_2 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) : Vec F S1024x1280 .fp8e5m2 :=
  VO0_2.read (Elt F) (VO0_2.writes (Elt F) VO0_2.junk (kernelRun0_B c i arg1 harg1 arg2 harg2 arg3 harg3 arg4 harg4 hc0 hc1 x0 x1 xo3).1)

/-- Case B's pieces for output 3 tile its block (1 store of `S8x1280`, checked by the kernel's evaluation: Lib/Ring.lean `Piece.tiledL`, linear in the pieces, through a loop's `@[irreducible]` trip theorem too), so they cover it. -/
theorem cover0_B_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) (y : S8x1280.Idx) :
    ∃ pc ∈ (kernelRun0_B c i arg1 harg1 arg2 harg2 arg3 harg3 arg4 harg4 hc0 hc1 x0 x1 xo3).2.1, y ∈ pc.1.set :=
  View.cover_of_tiledL (kernelRun0_B c i arg1 harg1 arg2 harg2 arg3 harg3 arg4 harg4 hc0 hc1 x0 x1 xo3).2.1 S8x1280.size (by sl_kernel_rfl) y

/-- What case B leaves in output 3's staging buffer: its pieces read back over junk. -/
def out0_B_3 (c : Dev nD) (i : grid0.Coords) (arg1 : Memref sig .tc .smem S1 .f32) (harg1 : arg1.IsWhole) (arg2 : Memref sig .tc .vmem S1024x1280 .bf16) (harg2 : arg2.IsWhole) (arg3 : Memref sig .tc .vmem S1024x1280 .fp8e5m2) (harg3 : arg3.IsWhole) (arg4 : Memref sig .tc .vmem S8x1280 .f32) (harg4 : arg4.IsWhole) (hc0 : ¬cond0_0 i) (hc1 : cond0_1 i)
    (x0 : Vec F S1 .f32) (x1 : Vec F S1024x1280 .bf16) (xo3 : Vec F S8x1280 .f32) : Vec F S8x1280 .f32 :=
  VO0_3.read (Elt F) (VO0_3.writes (Elt F) VO0_3.junk (kernelRun0_B c i arg1 harg1 arg2 harg2 arg3 harg3 arg4 harg4 hc0 hc1 x0 x1 xo3).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x1280 .fp8e5m2 × Vec F S8x1280 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 6 = 0 then
      if h1 : 1 ≤ (n + 1) then
        False.elim (by have hN : n + 1 < 6 := lt_of_lt_of_eq hn (show cfg0.N = 6 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : 1 ≤ (n + 1) then
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        False.elim (by have hN : n + 1 < 6 := lt_of_lt_of_eq hn (show cfg0.N = 6 from N_0); omega)

/-- `outsAt0` at a point of case A: that case's contents. -/
theorem outsAt0_A (c : Dev nD) (t : Fin cfg0.N) (h0 : t.val % 6 = 0) (h1 : ¬1 ≤ t.val) :
    outsAt0 V c t.val t.isLt = (out0_A_2 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 6 = 0) (h1 : 1 ≤ t.val) :
    outsAt0 V c t.val t.isLt = (out0_B_2 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 6 := lt_of_lt_of_eq t.isLt (show cfg0.N = 6 from N_0)
  rw [after0_3, after0_3]
  by_cases h0 : t.val % 6 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 6 = 0) (h1 : 1 ≤ t.val) (d) :
    (dat0 V c).before 3 t d = (outsAt0 V c (t.val - 1) (Nat.lt_of_le_of_lt (Nat.sub_le _ _) t.isLt)).2 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  have hN : t.val < 6 := lt_of_lt_of_eq t.isLt (show cfg0.N = 6 from N_0)
  by_cases h0 : t.val % 6 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [outsAt0_A V c t h0 h1]
      unfold out0_A_2 out0_A_3; (try dsimp only)
      iintro ⟨HΦ, Ho, ⟨%d0, H0⟩, ⟨%d1, H1⟩, ⟨%d2, H2⟩, ⟨%d3, H3⟩⟩
      iapply ((kernelRun0_A c (grid0.coords t) _ _ _ _ _ _ _ _ ((hcond0_0 t).mpr h0) (fun h => h1 ((hcond0_1 t).mp h)) (iblk0 V c 0 t) (iblk0 V c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _)
      unfold owns; iexists _; isplitr
      swap; · iexact H3
      ipureintro; exact View.read_writes_of_cover _ _ _ _ _ (cover0_A_3 c _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [outsAt0_B V c t h0 h1]
      simp only [before0_3_B V c t h0 h1]
      unfold out0_B_2 out0_B_3; (try dsimp only)
      iintro ⟨HΦ, Ho, ⟨%d0, H0⟩, ⟨%d1, H1⟩, ⟨%d2, H2⟩, ⟨%d3, H3⟩⟩
      iapply ((kernelRun0_B c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _)
      unfold owns; iexists _; isplitr
      swap; · iexact H3
      ipureintro; exact View.read_writes_of_cover _ _ _ _ _ (cover0_B_3 c _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdealFrame.Region1.lean ====
/-
The frame of the printed program `KernelIdeal`: region 1 (the two gradient products): its blocks, its body's triple in each case, the contents of its outputs point by point, its proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_grads` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 31 = 0 :=
  (fun t => by
    have ht : t.val < 31 := Nat.lt_of_lt_of_eq t.isLt N_1
    have e0 : (grid1.coords t 0).val = t.val / 1 % 31 := Pipeline.Grid.coords_val t 0 (by decide) rfl
    simp only [cond1_0, k1_cond1, e0]
    word_cmp
   : ∀ t : Fin grid1.N, cond1_0 (grid1.coords t) ↔ t.val % 31 = 0)

/-- The condition of the body's `scf.if` 1 (`k1_h2`), from the grid coordinates (the skeleton's scalar
    chain substituted). -/
abbrev cond1_1 (i : grid1.Coords) : Prop := k1_cond2 i = 1#1
/-- It holds at the points from point 1 on — decided over the grid. -/
theorem hcond1_1 : ∀ t : Fin cfg1.N, cond1_1 (grid1.coords t) ↔ 1 ≤ t.val :=
  (by decide +kernel : ∀ t : Fin grid1.N, cond1_1 (grid1.coords t) ↔ 1 ≤ t.val)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- Window 5 is never idle (an output stored at every point, under no condition). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Window 7 is never idle (an output stored at every point, under no condition). -/
theorem liveAt1_7 : ∀ t : Fin cfg1.N, cfg1.idle 7 (grid1.coords t) = false := fun _ => rfl
/-- Whether output 8's buffer is FRESH at each position `1 ‥ N` — holds nothing the body stored since the region's entry or the
    last write-back (written back at the point before, or idle there and fresh before it) —, as a bitmask the classifier
    computed, bit `n` for position `n + 1`; position 0 is fresh. `freshTab1_8_step` checks it against the configuration's own
    step point by point and Lib/Pipeline/TableIdle.lean `Cfg.fresh_tab` makes it `Cfg.fresh` (`fresh1_8_eq`). -/
def freshTab1_8 : ℕ → Bool
  | 0 => true
  | n + 1 => (0x40000000 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem fresh1_8_eq (t : Fin cfg1.N) : cfg1.fresh 8 t.val = freshTab1_8 t.val :=
  Pipeline.Cfg.fresh_tab cfg1 8 freshTab1_8 rfl freshTab1_8_step t.val (Nat.le_of_lt t.isLt)
/-- At the points of case A the printed configuration (`Cfg.idle`) calls output 8 live: the case stores into it. -/
theorem liveAt1_8_A : ∀ t : Fin cfg1.N, cond1_0 (grid1.coords t) → ¬cond1_1 (grid1.coords t) → cfg1.idle 8 (grid1.coords t) = false := by decide +kernel
/-- At the points of case B the printed configuration (`Cfg.idle`) calls output 8 live: the case stores into it. -/
theorem liveAt1_8_B : ∀ t : Fin cfg1.N, ¬cond1_0 (grid1.coords t) → cond1_1 (grid1.coords t) → cfg1.idle 8 (grid1.coords t) = false := by decide +kernel
/-- At the points of case B, which keeps output 8's prior contents (reads it before covering, or covers it in part), the
    window's buffer is not FRESH: something was stored into it since the region's entry or its last write-back, idle points
    between or not (Lib/Pipeline/TableIdle.lean `Cfg.fresh`, by the table `freshTab1_8`). -/
theorem notFresh1_8_B : ∀ t : Fin cfg1.N, ¬cond1_0 (grid1.coords t) → cond1_1 (grid1.coords t) → cfg1.fresh 8 t.val = false := by
  intro t; rw [fresh1_8_eq t]; revert t; decide +kernel
/-- Whether output 9's buffer is FRESH at each position `1 ‥ N` — holds nothing the body stored since the region's entry or the
    last write-back (written back at the point before, or idle there and fresh before it) —, as a bitmask the classifier
    computed, bit `n` for position `n + 1`; position 0 is fresh. `freshTab1_9_step` checks it against the configuration's own
    step point by point and Lib/Pipeline/TableIdle.lean `Cfg.fresh_tab` makes it `Cfg.fresh` (`fresh1_9_eq`). -/
def freshTab1_9 : ℕ → Bool
  | 0 => true
  | n + 1 => (0x40000000 : ℕ).testBit n
theorem freshTab1_9_step : ∀ t : Fin cfg1.N,
    freshTab1_9 (t.val + 1) = ((cfg1.win 9).flush t || (cfg1.idle 9 (cfg1.grid.coords t) && freshTab1_9 t.val)) := by decide +kernel
theorem fresh1_9_eq (t : Fin cfg1.N) : cfg1.fresh 9 t.val = freshTab1_9 t.val :=
  Pipeline.Cfg.fresh_tab cfg1 9 freshTab1_9 rfl freshTab1_9_step t.val (Nat.le_of_lt t.isLt)
/-- At the points of case A the printed configuration (`Cfg.idle`) calls output 9 live: the case stores into it. -/
theorem liveAt1_9_A : ∀ t : Fin cfg1.N, cond1_0 (grid1.coords t) → ¬cond1_1 (grid1.coords t) → cfg1.idle 9 (grid1.coords t) = false := by decide +kernel
/-- At the points of case B the printed configuration (`Cfg.idle`) calls output 9 live: the case stores into it. -/
theorem liveAt1_9_B : ∀ t : Fin cfg1.N, ¬cond1_0 (grid1.coords t) → cond1_1 (grid1.coords t) → cfg1.idle 9 (grid1.coords t) = false := by decide +kernel
/-- At the points of case B, which keeps output 9's prior contents (reads it before covering, or covers it in part), the
    window's buffer is not FRESH: something was stored into it since the region's entry or its last write-back, idle points
    between or not (Lib/Pipeline/TableIdle.lean `Cfg.fresh`, by the table `freshTab1_9`). -/
theorem notFresh1_9_B : ∀ t : Fin cfg1.N, ¬cond1_0 (grid1.coords t) → cond1_1 (grid1.coords t) → cfg1.fresh 9 t.val = false := by
  intro t; rw [fresh1_9_eq t]; revert t; decide +kernel

/-! ## The kernel body on any staging memrefs: a subtype the run finds -/

/-- One staging buffer of output window 4, through which its contents are stated (`View.read_writes_of_cover`: the
    choice does not matter). -/
abbrev VO1_4 : View sig .tc .vmem S6144x256 .fp8e4m3 := (Memref.whole cc1_stg4_0 : Memref sig .tc .vmem S6144x256 .fp8e4m3).view
/-- One staging buffer of output window 5, through which its contents are stated (`View.read_writes_of_cover`: the
    choice does not matter). -/
abbrev VO1_5 : View sig .tc .vmem S256x1280 .fp8e4m3 := (Memref.whole cc1_stg5_0 : Memref sig .tc .vmem S256x1280 .fp8e4m3).view
/-- One staging buffer of output window 6, through which its contents are stated (`View.read_writes_of_cover`: the
    choice does not matter). -/
abbrev VO1_6 : View sig .tc .vmem S768x8x256 .bf16 := (Memref.whole cc1_stg6_0 : Memref sig .tc .vmem S768x8x256 .bf16).view
/-- One staging buffer of output window 7, through which its contents are stated (`View.read_writes_of_cover`: the
    choice does not matter). -/
abbrev VO1_7 : View sig .tc .vmem S256x1280 .f32 := (Memref.whole cc1_stg7_0 : Memref sig .tc .vmem S256x1280 .f32).view
/-- One staging buffer of output window 8, through which its contents are stated (`View.read_writes_of_cover`: the
    choice does not matter). -/
abbrev VO1_8 : View sig .tc .vmem S8x256 .f32 := (Memref.whole cc1_stg8_0 : Memref sig .tc .vmem S8x256 .f32).view
/-- One staging buffer of output window 9, through which its contents are stated (`View.read_writes_of_cover`: the
    choice does not matter). -/
abbrev VO1_9 : View sig .tc .vmem S8x1280 .f32 := (Memref.whole cc1_stg9_0 : Memref sig .tc .vmem S8x1280 .f32).view
/-- Each window's current staging memref at point `t`, spelled as the pipeline passes it (`bodyAt1`), and its wholeness. -/
abbrev ms1_0 (t : Fin cfg1.N) : Memref sig .tc .smem S4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S6144x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1280 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6144x1280 .fp8e5m2 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S6144x256 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1280 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S768x8x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x1280 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x1280 .f32 := win1_9.stage (cfg1.slots t 9)
abbrev hs1_9 (t : Fin cfg1.N) : (ms1_9 t).IsWhole := hstage1_9 ((cfg1.slots t 9).cast nbuf1_9)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) :
    Σ' (L4 : List (View.Piece (Elt F) S6144x256 .fp8e4m3)), Σ' (L5 : List (View.Piece (Elt F) S256x1280 .fp8e4m3)), Σ' (L6 : List (View.Piece (Elt F) S768x8x256 .bf16)), Σ' (L7 : List (View.Piece (Elt F) S256x1280 .f32)), Σ' (L8 : List (View.Piece (Elt F) S8x256 .f32)), { L9 : List (View.Piece (Elt F) S8x1280 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_grads i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_grads_eq_skeleton]; unfold cc1_grads_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- Case A's pieces for output 4 tile its block (12 stores of `S512x256`, checked by the kernel's evaluation: Lib/Ring.lean `Piece.tiledL`, linear in the pieces, through a loop's `@[irreducible]` trip theorem too), so they cover it. -/
theorem cover1_A_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S6144x256.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).1 S512x256.size (by sl_kernel_rfl) y

/-- What case A leaves in output 4's staging buffer: its pieces read back over junk. -/
def out1_A_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S6144x256 .fp8e4m3 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 hc0 hc1 x0 x1 x2 x3).1)

/-- Case A's pieces for output 5 tile its block (1 store of `S256x1280`, checked by the kernel's evaluation: Lib/Ring.lean `Piece.tiledL`, linear in the pieces, through a loop's `@[irreducible]` trip theorem too), so they cover it. -/
theorem cover1_A_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S256x1280.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.1 S256x1280.size (by sl_kernel_rfl) y

/-- What case A leaves in output 5's staging buffer: its pieces read back over junk. -/
def out1_A_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S256x1280 .fp8e4m3 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 hc0 hc1 x0 x1 x2 x3).2.1)

/-- Case A's pieces for output 6 tile its block (12 stores of `S64x8x256`, checked by the kernel's evaluation: Lib/Ring.lean `Piece.tiledL`, linear in the pieces, through a loop's `@[irreducible]` trip theorem too), so they cover it. -/
theorem cover1_A_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S768x8x256.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.1 S64x8x256.size (by sl_kernel_rfl) y

/-- What case A leaves in output 6's staging buffer: its pieces read back over junk. -/
def out1_A_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S768x8x256 .bf16 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 hc0 hc1 x0 x1 x2 x3).2.2.1)

/-- Case A's pieces for output 7 tile its block (1 store of `S256x1280`, checked by the kernel's evaluation: Lib/Ring.lean `Piece.tiledL`, linear in the pieces, through a loop's `@[irreducible]` trip theorem too), so they cover it. -/
theorem cover1_A_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S256x1280.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.1 S256x1280.size (by sl_kernel_rfl) y

/-- What case A leaves in output 7's staging buffer: its pieces read back over junk. -/
def out1_A_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S256x1280 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 hc0 hc1 x0 x1 x2 x3).2.2.2.1)

/-- Case A's pieces for output 8 tile its block (1 store of `S8x256`, checked by the kernel's evaluation: Lib/Ring.lean `Piece.tiledL`, linear in the pieces, through a loop's `@[irreducible]` trip theorem too), so they cover it. -/
theorem cover1_A_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S8x256.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.2.1 S8x256.size (by sl_kernel_rfl) y

/-- What case A leaves in output 8's staging buffer: its pieces read back over junk. -/
def out1_A_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S8x256 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 hc0 hc1 x0 x1 x2 x3).2.2.2.2.1)

/-- Case A's pieces for output 9 tile its block (1 store of `S8x1280`, checked by the kernel's evaluation: Lib/Ring.lean `Piece.tiledL`, linear in the pieces, through a loop's `@[irreducible]` trip theorem too), so they cover it. -/
theorem cover1_A_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) (y : S8x1280.Idx) :
    ∃ pc ∈ (kernelRun1_A c i arg1 harg1 arg2 harg2 arg3 harg3 arg4 harg4 arg5 harg5 arg6 harg6 arg7 harg7 arg8 harg8 arg9 harg9 arg10 harg10 hc0 hc1 x0 x1 x2 x3).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 hc0 hc1 x0 x1 x2 x3).2.2.2.2.2.1 S8x1280.size (by sl_kernel_rfl) y

/-- What case A leaves in output 9's staging buffer: its pieces read back over junk. -/
def out1_A_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : cond1_0 i) (hc1 : ¬cond1_1 i)
    (x0 : Vec F S4 .f32) (x1 : Vec F S6144x256 .bf16) (x2 : Vec F S256x1280 .f32) (x3 : Vec F S6144x1280 .fp8e5m2) : Vec F S8x1280 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 hc0 hc1 x0 x1 x2 x3).2.2.2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 30: 30 of 31), WITH the
    proof that on whole staging memrefs — the inputs' at their contents, the outputs it reads before covering (8, 9) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) :
    Σ' (L4 : List (View.Piece (Elt F) S6144x256 .fp8e4m3)), Σ' (L5 : List (View.Piece (Elt F) S256x1280 .fp8e4m3)), Σ' (L6 : List (View.Piece (Elt F) S768x8x256 .bf16)), Σ' (L7 : List (View.Piece (Elt F) S256x1280 .f32)), Σ' (L8 : List (View.Piece (Elt F) S8x256 .f32)), { L9 : List (View.Piece (Elt F) S8x1280 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1_grads i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc1_grads_eq_skeleton]; unfold cc1_grads_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-- Case B's pieces for output 4 tile its block (12 stores of `S512x256`, checked by the kernel's evaluation: Lib/Ring.lean `Piece.tiledL`, linear in the pieces, through a loop's `@[irreducible]` trip theorem too), so they cover it. -/
theorem cover1_B_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S6144x256.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).1 S512x256.size (by sl_kernel_rfl) y

/-- What case B leaves in output 4's staging buffer: its pieces read back over junk. -/
def out1_B_4 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S6144x256 .fp8e4m3 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 hc0 hc1 x0 x1 x2 x3 xo8 xo9).1)

/-- Case B's pieces for output 5 tile its block (1 store of `S256x1280`, checked by the kernel's evaluation: Lib/Ring.lean `Piece.tiledL`, linear in the pieces, through a loop's `@[irreducible]` trip theorem too), so they cover it. -/
theorem cover1_B_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S256x1280.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.1 S256x1280.size (by sl_kernel_rfl) y

/-- What case B leaves in output 5's staging buffer: its pieces read back over junk. -/
def out1_B_5 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S256x1280 .fp8e4m3 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 hc0 hc1 x0 x1 x2 x3 xo8 xo9).2.1)

/-- Case B's pieces for output 6 tile its block (12 stores of `S64x8x256`, checked by the kernel's evaluation: Lib/Ring.lean `Piece.tiledL`, linear in the pieces, through a loop's `@[irreducible]` trip theorem too), so they cover it. -/
theorem cover1_B_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S768x8x256.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.1 S64x8x256.size (by sl_kernel_rfl) y

/-- What case B leaves in output 6's staging buffer: its pieces read back over junk. -/
def out1_B_6 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S768x8x256 .bf16 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.1)

/-- Case B's pieces for output 7 tile its block (1 store of `S256x1280`, checked by the kernel's evaluation: Lib/Ring.lean `Piece.tiledL`, linear in the pieces, through a loop's `@[irreducible]` trip theorem too), so they cover it. -/
theorem cover1_B_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S256x1280.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1 S256x1280.size (by sl_kernel_rfl) y

/-- What case B leaves in output 7's staging buffer: its pieces read back over junk. -/
def out1_B_7 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S256x1280 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.1)

/-- Case B's pieces for output 8 tile its block (1 store of `S8x256`, checked by the kernel's evaluation: Lib/Ring.lean `Piece.tiledL`, linear in the pieces, through a loop's `@[irreducible]` trip theorem too), so they cover it. -/
theorem cover1_B_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S8x256.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1 S8x256.size (by sl_kernel_rfl) y

/-- What case B leaves in output 8's staging buffer: its pieces read back over junk. -/
def out1_B_8 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S8x256 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.1)

/-- Case B's pieces for output 9 tile its block (1 store of `S8x1280`, checked by the kernel's evaluation: Lib/Ring.lean `Piece.tiledL`, linear in the pieces, through a loop's `@[irreducible]` trip theorem too), so they cover it. -/
theorem cover1_B_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) (y : S8x1280.Idx) :
    ∃ pc ∈ (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1 S8x1280.size (by sl_kernel_rfl) y

/-- What case B leaves in output 9's staging buffer: its pieces read back over junk. -/
def out1_B_9 (c : Dev nD) (i : grid1.Coords) (arg1 : Memref sig .tc .smem S4 .f32) (harg1 : arg1.IsWhole) (arg2 : Memref sig .tc .vmem S6144x256 .bf16) (harg2 : arg2.IsWhole) (arg3 : Memref sig .tc .vmem S256x1280 .f32) (harg3 : arg3.IsWhole) (arg4 : Memref sig .tc .vmem S6144x1280 .fp8e5m2) (harg4 : arg4.IsWhole) (arg5 : Memref sig .tc .vmem S6144x256 .fp8e4m3) (harg5 : arg5.IsWhole) (arg6 : Memref sig .tc .vmem S256x1280 .fp8e4m3) (harg6 : arg6.IsWhole) (arg7 : Memref sig .tc .vmem S768x8x256 .bf16) (harg7 : arg7.IsWhole) (arg8 : Memref sig .tc .vmem S256x1280 .f32) (harg8 : arg8.IsWhole) (arg9 : Memref sig .tc .vmem S8x256 .f32) (harg9 : arg9.IsWhole) (arg10 : Memref sig .tc .vmem S8x1280 .f32) (harg10 : arg10.IsWhole) (hc0 : ¬cond1_0 i) (hc1 : cond1_1 i)
    (x0 : Vec F S4 .f32) (x1 : Vec F S6144x256 .bf16) (x2 : Vec F S256x1280 .f32) (x3 : Vec F S6144x1280 .fp8e5m2) (xo8 : Vec F S8x256 .f32) (xo9 : Vec F S8x1280 .f32) : Vec F S8x1280 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 hc0 hc1 x0 x1 x2 x3 xo8 xo9).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S6144x256 .fp8e4m3 × Vec F S256x1280 .fp8e4m3 × Vec F S768x8x256 .bf16 × Vec F S256x1280 .f32 × Vec F S8x256 .f32 × Vec F S8x1280 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 31 = 0 then
      if h1 : 1 ≤ (n + 1) then
        False.elim (by have hN : n + 1 < 31 := lt_of_lt_of_eq hn (show cfg1.N = 31 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.1 (outsAt1 c n (Nat.lt_of_succ_lt hn)).2.2.2.2.2)
      else
        False.elim (by have hN : n + 1 < 31 := lt_of_lt_of_eq hn (show cfg1.N = 31 from N_1); omega)

/-- `outsAt1` at a point of case A: that case's contents. -/
theorem outsAt1_A (c : Dev nD) (t : Fin cfg1.N) (h0 : t.val % 31 = 0) (h1 : ¬1 ≤ t.val) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 31 = 0) (h1 : 1 ≤ t.val) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]
theorem after1_9 (c : Dev nD) (t : Fin cfg1.N) : (dat1 V c).after 9 t = (outsAt1 V c t.val t.isLt).2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 8's contents CARRY through the points that leave it idle: at such a point, its buffer not fresh, the proof data's
    `after` is the point before's (the case there stores nothing into the window and its term says so; a case that stores
    into it is not idle there by `liveAt1_8_κ`) — the hypothesis of Lib/Pipeline/TableIdle.lean `Dat.before_out_traj`. -/
theorem hcarry1_8 (c : Dev nD) : ∀ (t : Fin cfg1.N) (_ : t.val ≠ 0), cfg1.idle 8 (grid1.coords t) = true → cfg1.fresh 8 t.val = false →
    (dat1 V c).after 8 t = (dat1 V c).after 8 ⟨t.val - 1, by omega⟩ := by
  intro t _ hi _
  have hN : t.val < 31 := lt_of_lt_of_eq t.isLt (show cfg1.N = 31 from N_1)
  rw [after1_8, after1_8]
  by_cases h0 : t.val % 31 = 0
  · by_cases h1 : 1 ≤ t.val
    · exfalso; omega
    · rw [liveAt1_8_A t ((hcond1_0 t).mpr h0) (fun h => h1 ((hcond1_1 t).mp h))] at hi
      exact absurd hi Bool.false_ne_true
  · by_cases h1 : 1 ≤ t.val
    · rw [liveAt1_8_B t (fun h => h0 ((hcond1_0 t).mp h)) ((hcond1_1 t).mpr h1)] at hi
      exact absurd hi Bool.false_ne_true
    · exfalso; omega

/-- Output 9's contents CARRY through the points that leave it idle: at such a point, its buffer not fresh, the proof data's
    `after` is the point before's (the case there stores nothing into the window and its term says so; a case that stores
    into it is not idle there by `liveAt1_9_κ`) — the hypothesis of Lib/Pipeline/TableIdle.lean `Dat.before_out_traj`. -/
theorem hcarry1_9 (c : Dev nD) : ∀ (t : Fin cfg1.N) (_ : t.val ≠ 0), cfg1.idle 9 (grid1.coords t) = true → cfg1.fresh 9 t.val = false →
    (dat1 V c).after 9 t = (dat1 V c).after 9 ⟨t.val - 1, by omega⟩ := by
  intro t _ hi _
  have hN : t.val < 31 := lt_of_lt_of_eq t.isLt (show cfg1.N = 31 from N_1)
  rw [after1_9, after1_9]
  by_cases h0 : t.val % 31 = 0
  · by_cases h1 : 1 ≤ t.val
    · exfalso; omega
    · rw [liveAt1_9_A t ((hcond1_0 t).mpr h0) (fun h => h1 ((hcond1_1 t).mp h))] at hi
      exact absurd hi Bool.false_ne_true
  · by_cases h1 : 1 ≤ t.val
    · rw [liveAt1_9_B t (fun h => h0 ((hcond1_0 t).mp h)) ((hcond1_1 t).mpr h1)] at hi
      exact absurd hi Bool.false_ne_true
    · exfalso; omega
/-- At a point of case B output 8's current staging buffer holds what the point before left: the buffer is not fresh
    there (`notFresh1_8_B`: stored into since the region's entry or the last write-back, carried through the points that
    leave it idle by `hcarry1_8`; Lib/Pipeline/TableIdle.lean `Dat.before_out_traj`). -/
theorem before1_8_B (c : Dev nD) (t : Fin cfg1.N) (h0 : ¬t.val % 31 = 0) (h1 : 1 ≤ t.val) (d) :
    (dat1 V c).before 8 t d = (outsAt1 V c (t.val - 1) (Nat.lt_of_le_of_lt (Nat.sub_le _ _) t.isLt)).2.2.2.2.1 := by
  rw [Dat.before_out_traj _ 8 rfl (fun _ _ => rfl) (hcarry1_8 V c) t.val t rfl d,
    if_neg (by rw [notFresh1_8_B t (fun h => h0 ((hcond1_0 t).mp h)) ((hcond1_1 t).mpr h1)]; exact Bool.false_ne_true)]
  dsimp only [dat1]
/-- At a point of case B output 9's current staging buffer holds what the point before left: the buffer is not fresh
    there (`notFresh1_9_B`: stored into since the region's entry or the last write-back, carried through the points that
    leave it idle by `hcarry1_9`; Lib/Pipeline/TableIdle.lean `Dat.before_out_traj`). -/
theorem before1_9_B (c : Dev nD) (t : Fin cfg1.N) (h0 : ¬t.val % 31 = 0) (h1 : 1 ≤ t.val) (d) :
    (dat1 V c).before 9 t d = (outsAt1 V c (t.val - 1) (Nat.lt_of_le_of_lt (Nat.sub_le _ _) t.isLt)).2.2.2.2.2 := by
  rw [Dat.before_out_traj _ 9 rfl (fun _ _ => rfl) (hcarry1_9 V c) t.val t rfl d,
    if_neg (by rw [notFresh1_9_B t (fun h => h0 ((hcond1_0 t).mp h)) ((hcond1_1 t).mpr h1)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  have hN : t.val < 31 := lt_of_lt_of_eq t.isLt (show cfg1.N = 31 from N_1)
  by_cases h0 : t.val % 31 = 0
  · by_cases h1 : 1 ≤ t.val
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_A t ((hcond1_0 t).mpr h0) (fun h => h1 ((hcond1_1 t).mp h))], after1_8]
      rw [show (dat1 V c).leavesExact 9 t = owns (c : Thread nD τ) (ms1_9 t) fullShare ((dat1 V c).after 9 t) from by
      unfold Dat.leavesExact; rw [liveAt1_9_A t ((hcond1_0 t).mpr h0) (fun h => h1 ((hcond1_1 t).mp h))], after1_9]
      rw [outsAt1_A V c t h0 h1]
      unfold out1_A_4 out1_A_5 out1_A_6 out1_A_7 out1_A_8 out1_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexists _; iexact H8
      isplitl [H9]; · iexists _; iexact H9
      iintro ⟨H0, H1, H2, H3, ⟨%e4, H4⟩, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_A_7 c _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_A_8 c _ _ _ _ _ _ _ _ _ _ _ _ _ _ _ _ _ _ _ _ _ _ _ _ _ _ _)
      unfold owns; iexists _; isplitr
      swap; · iexact H9
      ipureintro; exact View.read_writes_of_cover _ _ _ _ _ (cover1_A_9 c _ _ _ _ _ _ _ _ _ _ _ _ _ _ _ _ _ _ _ _ _ _ _ _ _ _ _)
  · by_cases h1 : 1 ≤ t.val
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8_B t (fun h => h0 ((hcond1_0 t).mp h)) ((hcond1_1 t).mpr h1)], after1_8]
      rw [show (dat1 V c).leavesExact 9 t = owns (c : Thread nD τ) (ms1_9 t) fullShare ((dat1 V c).after 9 t) from by
      unfold Dat.leavesExact; rw [liveAt1_9_B t (fun h => h0 ((hcond1_0 t).mp h)) ((hcond1_1 t).mpr h1)], after1_9]
      rw [outsAt1_B V c t h0 h1]
      simp only [before1_8_B V c t h0 h1, before1_9_B V c t h0 h1]
      unfold out1_B_4 out1_B_5 out1_B_6 out1_B_7 out1_B_8 out1_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [H8]; · iexact H8
      isplitl [H9]; · iexact H9
      iintro ⟨H0, H1, H2, H3, ⟨%e4, H4⟩, ⟨%e5, H5⟩, ⟨%e6, H6⟩, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_B_7 c _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover1_B_8 c _ _ _ _ _ _ _ _ _ _ _ _ _ _ _ _ _ _ _ _ _ _ _ _ _ _ _ _ _)
      unfold owns; iexists _; isplitr
      swap; · iexact H9
      ipureintro; exact View.read_writes_of_cover _ _ _ _ _ (cover1_B_9 c _ _ _ _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdealFrame.Region2.lean ====
/-
The frame of the printed program `KernelIdeal`: region 2 (the forward product): its blocks, its body's triple, the contents of its output point by point, its proof data.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_fwd` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 3, through which its contents are stated (`View.read_writes_of_cover`: the
    choice does not matter). -/
abbrev VO2_3 : View sig .tc .vmem S64x8x1280 .bf16 := (Memref.whole cc2_stg3_0 : Memref sig .tc .vmem S64x8x1280 .bf16).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x7936 .fp8e4m3 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S7936x1280 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x8x1280 .bf16 := win2_3.stage (cfg2.slots t 3)
abbrev hs2_3 (t : Fin cfg2.N) : (ms2_3 t).IsWhole := hstage2_3 ((cfg2.slots t 3).cast nbuf2_3)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1 .f32) (harg1 : arg1.IsWhole) (arg2 : Memref sig .tc .vmem S512x7936 .fp8e4m3) (harg2 : arg2.IsWhole) (arg3 : Memref sig .tc .vmem S7936x1280 .fp8e4m3) (harg3 : arg3.IsWhole) (arg4 : Memref sig .tc .vmem S64x8x1280 .bf16) (harg4 : arg4.IsWhole)
    (x0 : Vec F S1 .f32) (x1 : Vec F S512x7936 .fp8e4m3) (x2 : Vec F S7936x1280 .fp8e4m3) :
    { L3 : List (View.Piece (Elt F) S64x8x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc2_fwd i arg1 harg1 arg2 harg2 arg3 harg3 arg4 harg4) K } := by
  refine ⟨?_, fun E K => ?run⟩
  case run =>
    simp only [cc2_fwd_eq_skeleton]; unfold cc2_fwd_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The run's pieces for output 3 tile its block (1 store of `S64x8x1280`, checked by the kernel's evaluation: Lib/Ring.lean `Piece.tiledL`, linear in the pieces, through a loop's `@[irreducible]` trip theorem too), so they cover it. -/
theorem cover2_A_3 (c : Dev nD) (i : grid2.Coords) (arg1 : Memref sig .tc .smem S1 .f32) (harg1 : arg1.IsWhole) (arg2 : Memref sig .tc .vmem S512x7936 .fp8e4m3) (harg2 : arg2.IsWhole) (arg3 : Memref sig .tc .vmem S7936x1280 .fp8e4m3) (harg3 : arg3.IsWhole) (arg4 : Memref sig .tc .vmem S64x8x1280 .bf16) (harg4 : arg4.IsWhole)
    (x0 : Vec F S1 .f32) (x1 : Vec F S512x7936 .fp8e4m3) (x2 : Vec F S7936x1280 .fp8e4m3) (y : S64x8x1280.Idx) :
    ∃ pc ∈ (kernelRun2_A c i arg1 harg1 arg2 harg2 arg3 harg3 arg4 harg4 x0 x1 x2).1, y ∈ pc.1.set :=
  View.cover_of_tiledL (kernelRun2_A c i arg1 harg1 arg2 harg2 arg3 harg3 arg4 harg4 x0 x1 x2).1 S64x8x1280.size (by sl_kernel_rfl) y

/-- What the run leaves in output 3's staging buffer: its pieces read back over junk. -/
def out2_A_3 (c : Dev nD) (i : grid2.Coords) (arg1 : Memref sig .tc .smem S1 .f32) (harg1 : arg1.IsWhole) (arg2 : Memref sig .tc .vmem S512x7936 .fp8e4m3) (harg2 : arg2.IsWhole) (arg3 : Memref sig .tc .vmem S7936x1280 .fp8e4m3) (harg3 : arg3.IsWhole) (arg4 : Memref sig .tc .vmem S64x8x1280 .bf16) (harg4 : arg4.IsWhole)
    (x0 : Vec F S1 .f32) (x1 : Vec F S512x7936 .fp8e4m3) (x2 : Vec F S7936x1280 .fp8e4m3) : Vec F S64x8x1280 .bf16 :=
  VO2_3.read (Elt F) (VO2_3.writes (Elt F) VO2_3.junk (kernelRun2_A c i arg1 harg1 arg2 harg2 arg3 harg3 arg4 harg4 x0 x1 x2).1)

/-! ## What the outputs hold after each point -/

/-- What the outputs' staging buffers hold after the body at point `t`: the run's contents at
    the point's memrefs and input blocks. -/
def outsAt2 (c : Dev nD) (t : Fin cfg2.N) : Vec F S64x8x1280 .bf16 :=
  out2_A_3 c (grid2.coords t) (ms2_0 t) (hs2_0 t) (ms2_1 t) (hs2_1 t) (ms2_2 t) (hs2_2 t) (ms2_3 t) (hs2_3 t) (iblk2 V c 0 t) (iblk2 V c 1 t) (iblk2 V c 2 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  unfold outsAt2
  unfold out2_A_3
  iintro ⟨HΦ, Ho, ⟨%d0, H0⟩, ⟨%d1, H1⟩, ⟨%d2, H2⟩, ⟨%d3, H3⟩⟩
  iapply ((kernelRun2_A c (grid2.coords t) _ _ _ _ _ _ _ _ (iblk2 V c 0 t) (iblk2 V c 1 t) (iblk2 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdealFrame.Hosts0.lean ====
/-
The frame of the printed program `KernelIdeal`: the stretches of host operations: which references each writes, and that no argument is among them.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_c, main_cst_0, main_v0, main_v1, main_cst_1, main_v2, main_cst_2, main_v3, main_v4, main_v5, main_v6, main_v7, main_c_3, main_v8, main_cst_4, main_v9, main_cst_5, main_v10, main_v11, main_c_6, main_v12, main_c_7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v13]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_8, main_v14, main_c_9]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_v15]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_cst_10, main_v16, main_cst_11, main_v17, main_v18, main_v19, main_v20, main_v21, main_c_12, main_v22, main_cst_13, main_v23, main_cst_14, main_v24, main_v25, main_c_15, main_v26, main_c_16]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_v27]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_cst_17, main_v28, main_c_18]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_v29]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_cst_19, main_v30, main_cst_20, main_v31, main_v32, main_v33, main_v34, main_v35, main_c_21, main_v36, main_cst_22, main_v37, main_cst_23, main_v38, main_v39, main_c_24, main_v40, main_c_25]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_v41]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_cst_26, main_v42, main_c_27]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps0_11` allocates a buffer. -/
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call5_v0, main_v43]
theorem hostOps0_11_writes : (hostOps0_11 : List (HloOp τ sig (Elt F))).Forall fun op => op.writes ⊆ (hostOps0_11_W.map (Proc.devRef (τ := τ) .tc)).toFinset :=
  StableHlo.forall_writes_sub_of_map rfl
/-- `hostOps0_11` writes none of the argument arrays (checked: each argument against each reference it writes). -/
theorem hostOps0_11_args : ∀ a ∈ argRefs, a ∉ hostOps0_11_W := ListAll.forall_mem_of_all_decide (by decide +kernel)

/-- No operation of `hostOps0_12` allocates a buffer. -/
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_c_28, main_v44, main_v45, main_v46, main_cst_29]
theorem hostOps0_12_writes : (hostOps0_12 : List (HloOp τ sig (Elt F))).Forall fun op => op.writes ⊆ (hostOps0_12_W.map (Proc.devRef (τ := τ) .tc)).toFinset :=
  StableHlo.forall_writes_sub_of_map rfl
/-- `hostOps0_12` writes none of the argument arrays (checked: each argument against each reference it writes). -/
theorem hostOps0_12_args : ∀ a ∈ argRefs, a ∉ hostOps0_12_W := ListAll.forall_mem_of_all_decide (by decide +kernel)

/-- No operation of `hostOps0_13` allocates a buffer. -/
theorem hostOps0_13_fresh : (hostOps0_13 : List (HloOp τ sig (Elt F))).Forall fun op => op.fresh = ∅ := by
  simp only [List.Forall]; repeat' constructor
/-- The reference each operation of `hostOps0_13` writes, in order. -/
abbrev hostOps0_13_W : List (Ref sig .tc) := [main_call6_v0, main_call6_v1, main_v47]
theorem hostOps0_13_writes : (hostOps0_13 : List (HloOp τ sig (Elt F))).Forall fun op => op.writes ⊆ (hostOps0_13_W.map (Proc.devRef (τ := τ) .tc)).toFinset :=
  StableHlo.forall_writes_sub_of_map rfl
/-- `hostOps0_13` writes none of the argument arrays (checked: each argument against each reference it writes). -/
theorem hostOps0_13_args : ∀ a ∈ argRefs, a ∉ hostOps0_13_W := ListAll.forall_mem_of_all_decide (by decide +kernel)

/-- No operation of `hostOps0_14` allocates a buffer. -/
theorem hostOps0_14_fresh : (hostOps0_14 : List (HloOp τ sig (Elt F))).Forall fun op => op.fresh = ∅ := by
  simp only [List.Forall]; repeat' constructor
/-- The reference each operation of `hostOps0_14` writes, in order. -/
abbrev hostOps0_14_W : List (Ref sig .tc) := [main_cst_30, main_v48, main_c_31, main_v49, main_v50, main_v51, main_cst_32]
theorem hostOps0_14_writes : (hostOps0_14 : List (HloOp τ sig (Elt F))).Forall fun op => op.writes ⊆ (hostOps0_14_W.map (Proc.devRef (τ := τ) .tc)).toFinset :=
  StableHlo.forall_writes_sub_of_map rfl
/-- `hostOps0_14` writes none of the argument arrays (checked: each argument against each reference it writes). -/
theorem hostOps0_14_args : ∀ a ∈ argRefs, a ∉ hostOps0_14_W := ListAll.forall_mem_of_all_decide (by decide +kernel)

/-- No operation of `hostOps0_15` allocates a buffer. -/
theorem hostOps0_15_fresh : (hostOps0_15 : List (HloOp τ sig (Elt F))).Forall fun op => op.fresh = ∅ := by
  simp only [List.Forall]; repeat' constructor
/-- The reference each operation of `hostOps0_15` writes, in order. -/
abbrev hostOps0_15_W : List (Ref sig .tc) := [main_call7_v0, main_call7_v1, main_v52]
theorem hostOps0_15_writes : (hostOps0_15 : List (HloOp τ sig (Elt F))).Forall fun op => op.writes ⊆ (hostOps0_15_W.map (Proc.devRef (τ := τ) .tc)).toFinset :=
  StableHlo.forall_writes_sub_of_map rfl
/-- `hostOps0_15` writes none of the argument arrays (checked: each argument against each reference it writes). -/
theorem hostOps0_15_args : ∀ a ∈ argRefs, a ∉ hostOps0_15_W := ListAll.forall_mem_of_all_decide (by decide +kernel)

/-- No operation of `hostOps0_16` allocates a buffer. -/
theorem hostOps0_16_fresh : (hostOps0_16 : List (HloOp τ sig (Elt F))).Forall fun op => op.fresh = ∅ := by
  simp only [List.Forall]; repeat' constructor
/-- The reference each operation of `hostOps0_16` writes, in order. -/
abbrev hostOps0_16_W : List (Ref sig .tc) := [main_cst_33, main_v53, main_c_34, main_v54, main_v55, main_v56, main_cst_35]
theorem hostOps0_16_writes : (hostOps0_16 : List (HloOp τ sig (Elt F))).Forall fun op => op.writes ⊆ (hostOps0_16_W.map (Proc.devRef (τ := τ) .tc)).toFinset :=
  StableHlo.forall_writes_sub_of_map rfl
/-- `hostOps0_16` writes none of the argument arrays (checked: each argument against each reference it writes). -/
theorem hostOps0_16_args : ∀ a ∈ argRefs, a ∉ hostOps0_16_W := ListAll.forall_mem_of_all_decide (by decide +kernel)

/-- No operation of `hostOps0_17` allocates a buffer. -/
theorem hostOps0_17_fresh : (hostOps0_17 : List (HloOp τ sig (Elt F))).Forall fun op => op.fresh = ∅ := by
  simp only [List.Forall]; repeat' constructor
/-- The reference each operation of `hostOps0_17` writes, in order. -/
abbrev hostOps0_17_W : List (Ref sig .tc) := [main_call8_v0, main_call8_v1, main_v57]
theorem hostOps0_17_writes : (hostOps0_17 : List (HloOp τ sig (Elt F))).Forall fun op => op.writes ⊆ (hostOps0_17_W.map (Proc.devRef (τ := τ) .tc)).toFinset :=
  StableHlo.forall_writes_sub_of_map rfl
/-- `hostOps0_17` writes none of the argument arrays (checked: each argument against each reference it writes). -/
theorem hostOps0_17_args : ∀ a ∈ argRefs, a ∉ hostOps0_17_W := ListAll.forall_mem_of_all_decide (by decide +kernel)

/-- No operation of `hostOps0_18` allocates a buffer. -/
theorem hostOps0_18_fresh : (hostOps0_18 : List (HloOp τ sig (Elt F))).Forall fun op => op.fresh = ∅ := by
  simp only [List.Forall]; repeat' constructor
/-- The reference each operation of `hostOps0_18` writes, in order. -/
abbrev hostOps0_18_W : List (Ref sig .tc) := [main_cst_36, main_v58, main_v59, main_c_37, main_v60, main_v61, main_v62, main_cst_38]
theorem hostOps0_18_writes : (hostOps0_18 : List (HloOp τ sig (Elt F))).Forall fun op => op.writes ⊆ (hostOps0_18_W.map (Proc.devRef (τ := τ) .tc)).toFinset :=
  StableHlo.forall_writes_sub_of_map rfl
/-- `hostOps0_18` writes none of the argument arrays (checked: each argument against each reference it writes). -/
theorem hostOps0_18_args : ∀ a ∈ argRefs, a ∉ hostOps0_18_W := ListAll.forall_mem_of_all_decide (by decide +kernel)

/-- No operation of `hostOps0_19` allocates a buffer. -/
theorem hostOps0_19_fresh : (hostOps0_19 : List (HloOp τ sig (Elt F))).Forall fun op => op.fresh = ∅ := by
  simp only [List.Forall]; repeat' constructor
/-- The reference each operation of `hostOps0_19` writes, in order. -/
abbrev hostOps0_19_W : List (Ref sig .tc) := [main_call9_v0, main_call9_v1, main_v63]
theorem hostOps0_19_writes : (hostOps0_19 : List (HloOp τ sig (Elt F))).Forall fun op => op.writes ⊆ (hostOps0_19_W.map (Proc.devRef (τ := τ) .tc)).toFinset :=
  StableHlo.forall_writes_sub_of_map rfl
/-- `hostOps0_19` writes none of the argument arrays (checked: each argument against each reference it writes). -/
theorem hostOps0_19_args : ∀ a ∈ argRefs, a ∉ hostOps0_19_W := ListAll.forall_mem_of_all_decide (by decide +kernel)

/-- No operation of `hostOps0_20` allocates a buffer. -/
theorem hostOps0_20_fresh : (hostOps0_20 : List (HloOp τ sig (Elt F))).Forall fun op => op.fresh = ∅ := by
  simp only [List.Forall]; repeat' constructor
/-- The reference each operation of `hostOps0_20` writes, in order. -/
abbrev hostOps0_20_W : List (Ref sig .tc) := [main_cst_39, main_v64, main_v65, main_c_40, main_v66, main_v67, main_v68, main_cst_41]
theorem hostOps0_20_writes : (hostOps0_20 : List (HloOp τ sig (Elt F))).Forall fun op => op.writes ⊆ (hostOps0_20_W.map (Proc.devRef (τ := τ) .tc)).toFinset :=
  StableHlo.forall_writes_sub_of_map rfl
/-- `hostOps0_20` writes none of the argument arrays (checked: each argument against each reference it writes). -/
theorem hostOps0_20_args : ∀ a ∈ argRefs, a ∉ hostOps0_20_W := ListAll.forall_mem_of_all_decide (by decide +kernel)

/-- No operation of `hostOps0_21` allocates a buffer. -/
theorem hostOps0_21_fresh : (hostOps0_21 : List (HloOp τ sig (Elt F))).Forall fun op => op.fresh = ∅ := by
  simp only [List.Forall]; repeat' constructor
/-- The reference each operation of `hostOps0_21` writes, in order. -/
abbrev hostOps0_21_W : List (Ref sig .tc) := [main_call10_v0, main_call10_v1, main_v69]
theorem hostOps0_21_writes : (hostOps0_21 : List (HloOp τ sig (Elt F))).Forall fun op => op.writes ⊆ (hostOps0_21_W.map (Proc.devRef (τ := τ) .tc)).toFinset :=
  StableHlo.forall_writes_sub_of_map rfl
/-- `hostOps0_21` writes none of the argument arrays (checked: each argument against each reference it writes). -/
theorem hostOps0_21_args : ∀ a ∈ argRefs, a ∉ hostOps0_21_W := ListAll.forall_mem_of_all_decide (by decide +kernel)

/-- No operation of `hostOps0_22` allocates a buffer. -/
theorem hostOps0_22_fresh : (hostOps0_22 : List (HloOp τ sig (Elt F))).Forall fun op => op.fresh = ∅ := by
  simp only [List.Forall]; repeat' constructor
/-- The reference each operation of `hostOps0_22` writes, in order. -/
abbrev hostOps0_22_W : List (Ref sig .tc) := [main_cst_42, main_v70, main_v71, main_c_43, main_v72, main_v73, main_v74, main_cst_44]
theorem hostOps0_22_writes : (hostOps0_22 : List (HloOp τ sig (Elt F))).Forall fun op => op.writes ⊆ (hostOps0_22_W.map (Proc.devRef (τ := τ) .tc)).toFinset :=
  StableHlo.forall_writes_sub_of_map rfl
/-- `hostOps0_22` writes none of the argument arrays (checked: each argument against each reference it writes). -/
theorem hostOps0_22_args : ∀ a ∈ argRefs, a ∉ hostOps0_22_W := ListAll.forall_mem_of_all_decide (by decide +kernel)

/-- No operation of `hostOps0_23` allocates a buffer. -/
theorem hostOps0_23_fresh : (hostOps0_23 : List (HloOp τ sig (Elt F))).Forall fun op => op.fresh = ∅ := by
  simp only [List.Forall]; repeat' constructor
/-- The reference each operation of `hostOps0_23` writes, in order. -/
abbrev hostOps0_23_W : List (Ref sig .tc) := [main_call11_v0, main_call11_v1, main_v75]
theorem hostOps0_23_writes : (hostOps0_23 : List (HloOp τ sig (Elt F))).Forall fun op => op.writes ⊆ (hostOps0_23_W.map (Proc.devRef (τ := τ) .tc)).toFinset :=
  StableHlo.forall_writes_sub_of_map rfl
/-- `hostOps0_23` writes none of the argument arrays (checked: each argument against each reference it writes). -/
theorem hostOps0_23_args : ∀ a ∈ argRefs, a ∉ hostOps0_23_W := ListAll.forall_mem_of_all_decide (by decide +kernel)

/-- No operation of `hostOps0_24` allocates a buffer. -/
theorem hostOps0_24_fresh : (hostOps0_24 : List (HloOp τ sig (Elt F))).Forall fun op => op.fresh = ∅ := by
  simp only [List.Forall]; repeat' constructor
/-- The reference each operation of `hostOps0_24` writes, in order. -/
abbrev hostOps0_24_W : List (Ref sig .tc) := [main_cst_45, main_v76, main_v77]
theorem hostOps0_24_writes : (hostOps0_24 : List (HloOp τ sig (Elt F))).Forall fun op => op.writes ⊆ (hostOps0_24_W.map (Proc.devRef (τ := τ) .tc)).toFinset :=
  StableHlo.forall_writes_sub_of_map rfl
/-- `hostOps0_24` writes none of the argument arrays (checked: each argument against each reference it writes). -/
theorem hostOps0_24_args : ∀ a ∈ argRefs, a ∉ hostOps0_24_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v79, main_v80, main_v81, main_v82, main_v83, main_v84, main_v85]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v87, main_v88]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v90, main_v91, main_v92, main_cst_46, main_v93, main_v94, main_v95, main_v96, main_cst_47, main_v97, main_v98, main_v99, main_v100, main_cst_48, main_v101, main_v102, main_v103, main_v104, main_v105]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Gen

end
-- ==== Proof.KernelIdealFrame.Fold0.lean ====
/-
The frame of the printed program `KernelIdeal`: the buffer contents at every boundary between two segments, as a fold from the launch memory.
-/
module

public import proofs.«01_k».proof.Proof.KernelIdealFrame.Region0
public import proofs.«01_k».proof.Proof.KernelIdealFrame.Region1
public import proofs.«01_k».proof.Proof.KernelIdealFrame.Region2
public import proofs.«01_k».proof.Proof.KernelIdealFrame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18`. -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- After `hostOps0_19`. -/
abbrev W20 : Dev nD → Valuation τ sig (Elt F) := fun c => StableHlo.after hostOps0_19 (W19 m ρ c)
/-- A reference `hostOps0_19` does not write keeps its contents across it. -/
theorem W20_of (c : Dev nD) (r : Ref sig .tc) (h : r ∉ hostOps0_19_W) : W20 m ρ c (Proc.devRef .tc r) = W19 m ρ c (Proc.devRef .tc r) :=
  StableHlo.after_of_writes_sub hostOps0_19 _ hostOps0_19_writes h
theorem W20_args (c : Dev nD) : ∀ a ∈ argRefs, W20 m ρ c (Proc.devRef .tc a) = m ((c : Thread nD τ).loc a) :=
  fun a ha => (W20_of m ρ c a (hostOps0_19_args a ha)).trans (W19_args m ρ c a ha)
/-- After `hostOps0_20`. -/
abbrev W21 : Dev nD → Valuation τ sig (Elt F) := fun c => StableHlo.after hostOps0_20 (W20 m ρ c)
/-- A reference `hostOps0_20` does not write keeps its contents across it. -/
theorem W21_of (c : Dev nD) (r : Ref sig .tc) (h : r ∉ hostOps0_20_W) : W21 m ρ c (Proc.devRef .tc r) = W20 m ρ c (Proc.devRef .tc r) :=
  StableHlo.after_of_writes_sub hostOps0_20 _ hostOps0_20_writes h
theorem W21_args (c : Dev nD) : ∀ a ∈ argRefs, W21 m ρ c (Proc.devRef .tc a) = m ((c : Thread nD τ).loc a) :=
  fun a ha => (W21_of m ρ c a (hostOps0_20_args a ha)).trans (W20_args m ρ c a ha)
/-- After `hostOps0_21`. -/
abbrev W22 : Dev nD → Valuation τ sig (Elt F) := fun c => StableHlo.after hostOps0_21 (W21 m ρ c)
/-- A reference `hostOps0_21` does not write keeps its contents across it. -/
theorem W22_of (c : Dev nD) (r : Ref sig .tc) (h : r ∉ hostOps0_21_W) : W22 m ρ c (Proc.devRef .tc r) = W21 m ρ c (Proc.devRef .tc r) :=
  StableHlo.after_of_writes_sub hostOps0_21 _ hostOps0_21_writes h
theorem W22_args (c : Dev nD) : ∀ a ∈ argRefs, W22 m ρ c (Proc.devRef .tc a) = m ((c : Thread nD τ).loc a) :=
  fun a ha => (W22_of m ρ c a (hostOps0_21_args a ha)).trans (W21_args m ρ c a ha)
/-- After `hostOps0_22`. -/
abbrev W23 : Dev nD → Valuation τ sig (Elt F) := fun c => StableHlo.after hostOps0_22 (W22 m ρ c)
/-- A reference `hostOps0_22` does not write keeps its contents across it. -/
theorem W23_of (c : Dev nD) (r : Ref sig .tc) (h : r ∉ hostOps0_22_W) : W23 m ρ c (Proc.devRef .tc r) = W22 m ρ c (Proc.devRef .tc r) :=
  StableHlo.after_of_writes_sub hostOps0_22 _ hostOps0_22_writes h
theorem W23_args (c : Dev nD) : ∀ a ∈ argRefs, W23 m ρ c (Proc.devRef .tc a) = m ((c : Thread nD τ).loc a) :=
  fun a ha => (W23_of m ρ c a (hostOps0_22_args a ha)).trans (W22_args m ρ c a ha)
/-- After `hostOps0_23`. -/
abbrev W24 : Dev nD → Valuation τ sig (Elt F) := fun c => StableHlo.after hostOps0_23 (W23 m ρ c)
/-- A reference `hostOps0_23` does not write keeps its contents across it. -/
theorem W24_of (c : Dev nD) (r : Ref sig .tc) (h : r ∉ hostOps0_23_W) : W24 m ρ c (Proc.devRef .tc r) = W23 m ρ c (Proc.devRef .tc r) :=
  StableHlo.after_of_writes_sub hostOps0_23 _ hostOps0_23_writes h
theorem W24_args (c : Dev nD) : ∀ a ∈ argRefs, W24 m ρ c (Proc.devRef .tc a) = m ((c : Thread nD τ).loc a) :=
  fun a ha => (W24_of m ρ c a (hostOps0_23_args a ha)).trans (W23_args m ρ c a ha)
/-- After `hostOps0_24` (region 0's entry). -/
abbrev W25 : Dev nD → Valuation τ sig (Elt F) := fun c => StableHlo.after hostOps0_24 (W24 m ρ c)
/-- A reference `hostOps0_24` does not write keeps its contents across it. -/
theorem W25_of (c : Dev nD) (r : Ref sig .tc) (h : r ∉ hostOps0_24_W) : W25 m ρ c (Proc.devRef .tc r) = W24 m ρ c (Proc.devRef .tc r) :=
  StableHlo.after_of_writes_sub hostOps0_24 _ hostOps0_24_writes h
theorem W25_args (c : Dev nD) : ∀ a ∈ argRefs, W25 m ρ c (Proc.devRef .tc a) = m ((c : Thread nD τ).loc a) :=
  fun a ha => (W25_of m ρ c a (hostOps0_24_args a ha)).trans (W24_args m ρ c a ha)
/-- The same read at the TensorCore's references (what region 0's proof data take). -/
abbrev V25 : (c : Dev nD) → (b : Ref sig .tc) → Buf (Elt F) ((c : Thread nD τ).loc b) := fun c b => W25 m ρ c b
/-- At region 0's exit: its arrays at what the pipeline leaves (the inputs as entered, each output's write-backs
    folded: `Dat.arrAt … N`), every other buffer as entered (Lib/Pipeline/FrameSuffix.lean `withArrays`). -/
def W26 (c : Dev nD) : Valuation τ sig (Elt F) :=
  Pipeline.withArrays spec0 c (W25 m ρ c) fun w => (dat0 (V25 m ρ) c).arrAt w cfg0.N
theorem W26_arr (c : Dev nD) (w : Fin cfg0.W) :
    W26 m ρ c (Proc.devRef .tc (Pipeline.arrRef spec0 w)) = (dat0 (V25 m ρ) c).arrAt w cfg0.N := by
  unfold W26; exact Pipeline.withArrays_arr spec0 launch0.win.arr_inj c _ _ w
theorem W26_of_ne (c : Dev nD) (b : Ref sig .tc) (hb : ∀ w, Pipeline.arrRef spec0 w ≠ b) :
    W26 m ρ c (Proc.devRef .tc b) = W25 m ρ c (Proc.devRef .tc b) := by
  unfold W26; exact Pipeline.withArrays_of_ne spec0 c _ _ b hb
/-- A reference that is none of region 0's OUTPUT arrays keeps its entry contents across it: an input window's
    array is never written back (`Dat.arrAt_in`, `A_eq0`); any other buffer is left as is. -/
theorem W26_of (c : Dev nD) (r : Ref sig .tc) (h : ∀ w : Fin cfg0.W, Pipeline.arrRef spec0 w = r → (cfg0.win w).isOut = false) :
    W26 m ρ c (Proc.devRef .tc r) = W25 m ρ c (Proc.devRef .tc r) := by
  by_cases hw : ∃ w : Fin cfg0.W, Pipeline.arrRef spec0 w = r
  · obtain ⟨w, rfl⟩ := hw
    exact (W26_arr m ρ c w).trans (((dat0 (V25 m ρ) c).arrAt_in w (h w rfl) _).trans (A_eq0 (V25 m ρ) c w))
  · exact W26_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W26_args (c : Dev nD) : ∀ a ∈ argRefs, W26 m ρ c (Proc.devRef .tc a) = m ((c : Thread nD τ).loc a) :=
  fun a ha => (W26_of m ρ c a (argsIn0 a ha)).trans (W25_args m ρ c a ha)
/-- The same read at the TensorCore's references (region 0's exit contents). -/
abbrev V26 : (c : Dev nD) → (b : Ref sig .tc) → Buf (Elt F) ((c : Thread nD τ).loc b) := fun c b => W26 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V25 m ρ) c).arrAt w cfg0.N = V26 m ρ c (Pipeline.arrRef spec0 w) :=
  (W26_arr m ρ c w).symm
theorem hrest0 (c : Dev nD) : ∀ b, b ∉ Finset.univ.image (Pipeline.arrRef spec0) → V26 m ρ c b = V25 m ρ c b :=
  fun b hb => W26_of_ne m ρ c b fun w e => hb (Finset.mem_image.mpr ⟨w, Finset.mem_univ _, e⟩)

/-- After `hostOps1` (region 1's entry). -/
abbrev W27 : Dev nD → Valuation τ sig (Elt F) := fun c => StableHlo.after hostOps1 (W26 m ρ c)
/-- A reference `hostOps1` does not write keeps its contents across it. -/
theorem W27_of (c : Dev nD) (r : Ref sig .tc) (h : r ∉ hostOps1_W) : W27 m ρ c (Proc.devRef .tc r) = W26 m ρ c (Proc.devRef .tc r) :=
  StableHlo.after_of_writes_sub hostOps1 _ hostOps1_writes h
theorem W27_args (c : Dev nD) : ∀ a ∈ argRefs, W27 m ρ c (Proc.devRef .tc a) = m ((c : Thread nD τ).loc a) :=
  fun a ha => (W27_of m ρ c a (hostOps1_args a ha)).trans (W26_args m ρ c a ha)
/-- The same read at the TensorCore's references (what region 1's proof data take). -/
abbrev V27 : (c : Dev nD) → (b : Ref sig .tc) → Buf (Elt F) ((c : Thread nD τ).loc b) := fun c b => W27 m ρ c b
/-- At region 1's exit: its arrays at what the pipeline leaves (the inputs as entered, each output's write-backs
    folded: `Dat.arrAt … N`), every other buffer as entered (Lib/Pipeline/FrameSuffix.lean `withArrays`). -/
def W28 (c : Dev nD) : Valuation τ sig (Elt F) :=
  Pipeline.withArrays spec1 c (W27 m ρ c) fun w => (dat1 (V27 m ρ) c).arrAt w cfg1.N
theorem W28_arr (c : Dev nD) (w : Fin cfg1.W) :
    W28 m ρ c (Proc.devRef .tc (Pipeline.arrRef spec1 w)) = (dat1 (V27 m ρ) c).arrAt w cfg1.N := by
  unfold W28; exact Pipeline.withArrays_arr spec1 launch1.win.arr_inj c _ _ w
theorem W28_of_ne (c : Dev nD) (b : Ref sig .tc) (hb : ∀ w, Pipeline.arrRef spec1 w ≠ b) :
    W28 m ρ c (Proc.devRef .tc b) = W27 m ρ c (Proc.devRef .tc b) := by
  unfold W28; exact Pipeline.withArrays_of_ne spec1 c _ _ b hb
/-- A reference that is none of region 1's OUTPUT arrays keeps its entry contents across it: an input window's
    array is never written back (`Dat.arrAt_in`, `A_eq1`); any other buffer is left as is. -/
theorem W28_of (c : Dev nD) (r : Ref sig .tc) (h : ∀ w : Fin cfg1.W, Pipeline.arrRef spec1 w = r → (cfg1.win w).isOut = false) :
    W28 m ρ c (Proc.devRef .tc r) = W27 m ρ c (Proc.devRef .tc r) := by
  by_cases hw : ∃ w : Fin cfg1.W, Pipeline.arrRef spec1 w = r
  · obtain ⟨w, rfl⟩ := hw
    exact (W28_arr m ρ c w).trans (((dat1 (V27 m ρ) c).arrAt_in w (h w rfl) _).trans (A_eq1 (V27 m ρ) c w))
  · exact W28_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W28_args (c : Dev nD) : ∀ a ∈ argRefs, W28 m ρ c (Proc.devRef .tc a) = m ((c : Thread nD τ).loc a) :=
  fun a ha => (W28_of m ρ c a (argsIn1 a ha)).trans (W27_args m ρ c a ha)
/-- The same read at the TensorCore's references (region 1's exit contents). -/
abbrev V28 : (c : Dev nD) → (b : Ref sig .tc) → Buf (Elt F) ((c : Thread nD τ).loc b) := fun c b => W28 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V27 m ρ) c).arrAt w cfg1.N = V28 m ρ c (Pipeline.arrRef spec1 w) :=
  (W28_arr m ρ c w).symm
theorem hrest1 (c : Dev nD) : ∀ b, b ∉ Finset.univ.image (Pipeline.arrRef spec1) → V28 m ρ c b = V27 m ρ c b :=
  fun b hb => W28_of_ne m ρ c b fun w e => hb (Finset.mem_image.mpr ⟨w, Finset.mem_univ _, e⟩)

/-- After `hostOps2` (region 2's entry). -/
abbrev W29 : Dev nD → Valuation τ sig (Elt F) := fun c => StableHlo.after hostOps2 (W28 m ρ c)
/-- A reference `hostOps2` does not write keeps its contents across it. -/
theorem W29_of (c : Dev nD) (r : Ref sig .tc) (h : r ∉ hostOps2_W) : W29 m ρ c (Proc.devRef .tc r) = W28 m ρ c (Proc.devRef .tc r) :=
  StableHlo.after_of_writes_sub hostOps2 _ hostOps2_writes h
theorem W29_args (c : Dev nD) : ∀ a ∈ argRefs, W29 m ρ c (Proc.devRef .tc a) = m ((c : Thread nD τ).loc a) :=
  fun a ha => (W29_of m ρ c a (hostOps2_args a ha)).trans (W28_args m ρ c a ha)
/-- The same read at the TensorCore's references (what region 2's proof data take). -/
abbrev V29 : (c : Dev nD) → (b : Ref sig .tc) → Buf (Elt F) ((c : Thread nD τ).loc b) := fun c b => W29 m ρ c b
/-- At region 2's exit: its arrays at what the pipeline leaves (the inputs as entered, each output's write-backs
    folded: `Dat.arrAt … N`), every other buffer as entered (Lib/Pipeline/FrameSuffix.lean `withArrays`). -/
def W30 (c : Dev nD) : Valuation τ sig (Elt F) :=
  Pipeline.withArrays spec2 c (W29 m ρ c) fun w => (dat2 (V29 m ρ) c).arrAt w cfg2.N
theorem W30_arr (c : Dev nD) (w : Fin cfg2.W) :
    W30 m ρ c (Proc.devRef .tc (Pipeline.arrRef spec2 w)) = (dat2 (V29 m ρ) c).arrAt w cfg2.N := by
  unfold W30; exact Pipeline.withArrays_arr spec2 launch2.win.arr_inj c _ _ w
theorem W30_of_ne (c : Dev nD) (b : Ref sig .tc) (hb : ∀ w, Pipeline.arrRef spec2 w ≠ b) :
    W30 m ρ c (Proc.devRef .tc b) = W29 m ρ c (Proc.devRef .tc b) := by
  unfold W30; exact Pipeline.withArrays_of_ne spec2 c _ _ b hb
/-- A reference that is none of region 2's OUTPUT arrays keeps its entry contents across it: an input window's
    array is never written back (`Dat.arrAt_in`, `A_eq2`); any other buffer is left as is. -/
theorem W30_of (c : Dev nD) (r : Ref sig .tc) (h : ∀ w : Fin cfg2.W, Pipeline.arrRef spec2 w = r → (cfg2.win w).isOut = false) :
    W30 m ρ c (Proc.devRef .tc r) = W29 m ρ c (Proc.devRef .tc r) := by
  by_cases hw : ∃ w : Fin cfg2.W, Pipeline.arrRef spec2 w = r
  · obtain ⟨w, rfl⟩ := hw
    exact (W30_arr m ρ c w).trans (((dat2 (V29 m ρ) c).arrAt_in w (h w rfl) _).trans (A_eq2 (V29 m ρ) c w))
  · exact W30_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W30_args (c : Dev nD) : ∀ a ∈ argRefs, W30 m ρ c (Proc.devRef .tc a) = m ((c : Thread nD τ).loc a) :=
  fun a ha => (W30_of m ρ c a (argsIn2 a ha)).trans (W29_args m ρ c a ha)
/-- The same read at the TensorCore's references (region 2's exit contents). -/
abbrev V30 : (c : Dev nD) → (b : Ref sig .tc) → Buf (Elt F) ((c : Thread nD τ).loc b) := fun c b => W30 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V29 m ρ) c).arrAt w cfg2.N = V30 m ρ c (Pipeline.arrRef spec2 w) :=
  (W30_arr m ρ c w).symm
theorem hrest2 (c : Dev nD) : ∀ b, b ∉ Finset.univ.image (Pipeline.arrRef spec2) → V30 m ρ c b = V29 m ρ c b :=
  fun b hb => W30_of_ne m ρ c b fun w e => hb (Finset.mem_image.mpr ⟨w, Finset.mem_univ _, e⟩)

/-- After `hostOps3`. -/
abbrev W31 : Dev nD → Valuation τ sig (Elt F) := fun c => StableHlo.after hostOps3 (W30 m ρ c)
/-- A reference `hostOps3` does not write keeps its contents across it. -/
theorem W31_of (c : Dev nD) (r : Ref sig .tc) (h : r ∉ hostOps3_W) : W31 m ρ c (Proc.devRef .tc r) = W30 m ρ c (Proc.devRef .tc r) :=
  StableHlo.after_of_writes_sub hostOps3 _ hostOps3_writes h
theorem W31_args (c : Dev nD) : ∀ a ∈ argRefs, W31 m ρ c (Proc.devRef .tc a) = m ((c : Thread nD τ).loc a) :=
  fun a ha => (W31_of m ρ c a (hostOps3_args a ha)).trans (W30_args m ρ c a ha)

/-! ### The arguments end as launched: no host stretch writes one and no region may change one (a region reads it
    through an input window or bypasses it) -/

theorem W31_main_arg0 (c : Dev nD) : W31 m ρ c (Proc.devRef .tc main_arg0) = m ((c : Thread nD τ).loc main_arg0) :=
  W31_args m ρ c main_arg0 (by decide)
theorem W31_main_arg1 (c : Dev nD) : W31 m ρ c (Proc.devRef .tc main_arg1) = m ((c : Thread nD τ).loc main_arg1) :=
  W31_args m ρ c main_arg1 (by decide)
theorem W31_main_arg2 (c : Dev nD) : W31 m ρ c (Proc.devRef .tc main_arg2) = m ((c : Thread nD τ).loc main_arg2) :=
  W31_args m ρ c main_arg2 (by decide)
theorem W31_main_arg3 (c : Dev nD) : W31 m ρ c (Proc.devRef .tc main_arg3) = m ((c : Thread nD τ).loc main_arg3) :=
  W31_args m ρ c main_arg3 (by decide)
theorem W31_main_arg4 (c : Dev nD) : W31 m ρ c (Proc.devRef .tc main_arg4) = m ((c : Thread nD τ).loc main_arg4) :=
  W31_args m ρ c main_arg4 (by decide)
theorem W31_main_arg5 (c : Dev nD) : W31 m ρ c (Proc.devRef .tc main_arg5) = m ((c : Thread nD τ).loc main_arg5) :=
  W31_args m ρ c main_arg5 (by decide)
end Cert.KernelIdeal.Gen

end
-- ==== Proof.KernelIdealFrame.State.lean ====
/-
The frame of the printed program `KernelIdeal`: the proof data of all pipelines and the state of the thread between two segments.
-/
module

public import proofs.«01_k».proof.Proof.KernelIdealFrame.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V25 m ρ) c
  | ⟨1, _⟩ => fun c => dat1 (V27 m ρ) c
  | ⟨2, _⟩ => fun c => dat2 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W31`, the generator register at some state. -/
abbrev Tₙ (c : Dev nD) : sProp 𝕄 := iprop(StableHlo.held (c : Thread nD τ) (Pipeline.ucRefs τ sig) (W31 m ρ c) ∗ ∃ r, prngReg c r)

end Cert.KernelIdeal.Gen

end
-- ==== Proof.KernelIdealFrame.Record0.lean ====
/-
The frame of the printed program `KernelIdeal`: region 0 as a segment of the run.
-/
module

public import proofs.«01_k».proof.Proof.KernelIdealFrame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W25`, left at `W26`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V25 m ρ) c).loose
  hwaits := Pipeline.hwaits_of_owed_zero _ _ _ _ L lv 0 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec0 c (V25 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V25 m ρ c) (A_eq0 (V25 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V25 m ρ c) (V26 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealFrame.Record1.lean ====
/-
The frame of the printed program `KernelIdeal`: region 1 as a segment of the run.
-/
module

public import proofs.«01_k».proof.Proof.KernelIdealFrame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W27`, left at `W28`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V27 m ρ) c).loose
  hwaits := Pipeline.hwaits_of_owed_zero _ _ _ _ L lv 1 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec1 c (V27 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V27 m ρ c) (A_eq1 (V27 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V27 m ρ c) (V28 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealFrame.Record2.lean ====
/-
The frame of the printed program `KernelIdeal`: region 2 as a segment of the run.
-/
module

public import proofs.«01_k».proof.Proof.KernelIdealFrame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W29`, left at `W30`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V29 m ρ) c).loose
  hwaits := Pipeline.hwaits_of_owed_zero _ _ _ _ L lv 2 fun _ _ => rfl
  pre c := iprop(StableHlo.held (c : Thread nD τ) (Pipeline.ucRefs τ sig) (W29 m ρ c) ∗ R c)
  post c := iprop(StableHlo.held (c : Thread nD τ) (Pipeline.ucRefs τ sig) (W30 m ρ c) ∗ R c)
  X c := iprop(∃ r, prngReg c r)
  Y c := iprop(∃ r, prngReg c r)
  Z c := Pipeline.unscopedRest (Ix := Unit) (Name := ℕ) (U := UR sig nD τ) (Lvl := ℕ) spec2 c (V29 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V29 m ρ c) (A_eq2 (V29 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V29 m ρ c) (V30 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealFrame.lean ====
/-
The frame of the printed program `KernelIdeal`: the segments in order and the frame of the whole program.
-/
module

public import proofs.«01_k».proof.Proof.KernelIdealFrame.Record0
public import proofs.«01_k».proof.Proof.KernelIdealFrame.Record1
public import proofs.«01_k».proof.Proof.KernelIdealFrame.Record2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 31 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .host (hseg hostOps0_19 hostOps0_19_sub hostOps0_19_fresh (W19 m ρ)),
    .host (hseg hostOps0_20 hostOps0_20_sub hostOps0_20_fresh (W20 m ρ)),
    .host (hseg hostOps0_21 hostOps0_21_sub hostOps0_21_fresh (W21 m ρ)),
    .host (hseg hostOps0_22 hostOps0_22_sub hostOps0_22_fresh (W22 m ρ)),
    .host (hseg hostOps0_23 hostOps0_23_sub hostOps0_23_fresh (W23 m ρ)),
    .host (hseg hostOps0_24 hostOps0_24_sub hostOps0_24_fresh (W24 m ρ)),
    .region (reg0 m ρ),
    .host (hseg hostOps1 hostOps1_sub hostOps1_fresh (W26 m ρ)),
    .region (reg1 m ρ),
    .host (hseg hostOps2 hostOps2_sub hostOps2_fresh (W28 m ρ)),
    .region (reg2 m ρ),
    .host (hseg hostOps3 hostOps3_sub hostOps3_fresh (W30 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

/-- The run: every unscoped buffer of a TensorCore ends at the contents `W31` of the last boundary, and every semaphore
    counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W31 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h hz => ⟨h, funext fun g => hz g (.inr (no_unscoped g.2))⟩)

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W31_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W31_main_arg0 m ρ c),
       (h.1 c _ (mem_uc main_arg1 (by decide))).trans (W31_main_arg1 m ρ c),
       (h.1 c _ (mem_uc main_arg2 (by decide))).trans (W31_main_arg2 m ρ c),
       (h.1 c _ (mem_uc main_arg3 (by decide))).trans (W31_main_arg3 m ρ c),
       (h.1 c _ (mem_uc main_arg4 (by decide))).trans (W31_main_arg4 m ρ c),
       (h.1 c _ (mem_uc main_arg5 (by decide))).trans (W31_main_arg5 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.KernelIdeal.Gen

end
-- ==== Proof.Value.Fwd.lean ====
/-
The forward product of `KernelIdeal` (region 2): what its one output array holds after the region, at the extended
reals, as a function of the arrays the region finds: the product of the two code arrays, contracted over the model
axis, times the region's scalar.
-/
module

public import proofs.«01_k».proof.Proof.KernelIdealFrame.Region2
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen

/-- Row `8 p + q` of the 6144 token rows, from its place in 768 groups of 8. -/
abbrev tokRow (p : Fin 768) (q : Fin 8) : Fin 6144 := ⟨p.val * 8 + q.val, by omega⟩

/-- The product of the codes of `x` (`cx`) and of `w` (`cw`) times the scalar `s`, the token rows in 768 groups of 8. -/
def fwdOut (cx : S6144x7936.Idx → EReal) (cw : S7936x1280.Idx → EReal) (s : EReal) : S768x8x1280.Idx → EReal :=
  fun i => (∑ k : Fin 7936, cx (ix2 (tokRow (i 0) (i 1)) k) * cw (ix2 k (i 2))) * s

/-- The block a grid point stores, at an index of the block. -/
theorem k2_pay1_apply (x1 : Vec Ideal S512x7936 .fp8e4m3) (x2 : Vec Ideal S7936x1280 .fp8e4m3) (s : Elt Ideal .f32)
    (y : S64x8x1280.Idx) :
    k2_pay1 x1 x2 s y
      = (∑ k : Fin 7936, (x1 (ix2 (n0 := 512) ⟨(y 0).val * 8 + (y 1).val, by idx_bounds y; omega⟩ k) : EReal)
          * x2 (ix2 k (y 2))) * s := by
  pointwise [k2_pay1, dot_S512x7936_S7936x1280_S512x1280_1_0_0_1_n_n]

variable (V : (c : Dev nD) → (b : Ref sig .tc) → Buf (Elt Ideal) ((c : Thread nD τ).loc b))

theorem idx2_0 : ∀ t : Fin cfg2.N, win2_0.index t = ![0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![t.val, 0, 0] := (by decide +kernel : ∀ t : Fin grid2.N, _)

/-- The output array after the region. -/
theorem fwd_arr (c : Dev nD) :
    (dat2 V c).arrAt 3 cfg2.N = fwdOut (V c main_v86_0) (V c main_v86_1) (V c main_v88 (ix1 0)) := by
  refine (dat2 V c).arrAt_eq_of_covers 3 _ (by decide +kernel) fun t hf y => ?_
  blk_simp
  rw [after2_3]
  unfold outsAt2
  frame_out
  refine (k2_pay1_apply _ _ _ y).trans ?_
  unfold fwdOut
  blk_simp [iblk2, idx2_0, idx2_1, idx2_2, idx2_3]
  refine congrArg₂ (· * ·) (Finset.sum_congr rfl fun k _ => congrArg₂ (· * ·) (congrArg (V c main_v86_0) ?_)
    (congrArg (V c main_v86_1) ?_)) (congrArg (V c main_v88) (funext fun a => ?_))
  · blk_ext [idx2_1, idx2_3]
    blk_simp [idx2_3]
    omega
  · blk_ext [idx2_2, idx2_3]
  · fin_cases a
    exact Subsingleton.elim (α := Fin 1) _ _

end Cert.KernelIdeal.Val

end
-- ==== Proof.Value.Pure.lean ====
/-
Maxima over the extended reals, by their upper bounds: `m` is the maximum of a family when `m ≤ b` says that every
member of the family is at most `b`. Two maxima of one family, taken in different orders and groupings, are equal by
this.
-/
module

public import Idealize.ShloMosaic.Lib.Pointwise
public import Idealize.ShloMosaic.PureOps.Ideal.Laws

@[expose] public section

noncomputable section

namespace Cert.Math

open Idealize.ShloMosaic Idealize.ShloMosaic.ValueIdx

/-- The word of `-∞` is the bottom of the extended reals. -/
theorem negInf : (Ideal.ofBits .f32 0xFF800000#32 : EReal) = ⊥ := by
  simp [Ideal.ofBits, Ideal.ieee]

/-- The word of zero. -/
theorem zero32 : (Ideal.ofBits .f32 0x00000000#32 : EReal) = 0 := by
  simp [Ideal.ofBits, Ideal.ieee]

/-- The absolute value, as both programs take it. -/
def absE (x : EReal) : EReal := max x (-x)

theorem absE_nonneg (x : EReal) : 0 ≤ absE x := by
  rcases le_total 0 x with h | h
  · exact le_max_of_le_left h
  · exact le_max_of_le_right (by simpa using EReal.neg_le_neg_iff.mpr h)

/-- A sum of products, times a scalar. -/
def sumMul {n : ℕ} (f g : Fin n → EReal) (s : EReal) : EReal := (∑ k, f k * g k) * s

theorem sumMul_congr {n : ℕ} {f f' g g' : Fin n → EReal} {s s' : EReal} (hf : ∀ k, f k = f' k) (hg : ∀ k, g k = g' k)
    (hs : s = s') : sumMul f g s = sumMul f' g' s' := by
  rw [funext hf, funext hg, hs]

/-- A maximum from the word of `-∞`. -/
theorem fold_le {ι : Type} [Fintype ι] (f : ι → EReal) (b : EReal) :
    Finset.fold max (Ideal.ofBits .f32 4286578688#32 : EReal) f Finset.univ ≤ b ↔ ∀ k, f k ≤ b := by
  rw [Finset.fold_max_le, negInf]
  simp

/-- A maximum reduction of the host, from `-∞` over every axis: it is at most `b` when every entry is. -/
theorem hostMax_le {s t u : Shape} {axes : List (Fin s.rank)} (x : s.Idx → EReal) (init : u.Idx → EReal)
    (h : s.ReducesTo axes t) (hu : 0 < u.numel) (j : t.Idx) (hdrop : ∀ i, h.drop i = j)
    (hinit : init (Shape.Idx.first hu) = ⊥) (b : EReal) :
    Host.reduce (FloatOps.maximumf (F := Ideal) (φ := .f32)) x init h hu j ≤ b ↔ ∀ i, x i ≤ b := by
  rw [Host.reduce_eq_fold, hinit]
  refine (Finset.fold_max_le (s := Finset.univ.filter fun i => h.drop i = j) (f := x) (b := (⊥ : EReal)) b).trans ?_
  simp [hdrop]

/-- The bf16 reading of the same. -/
theorem hostMax_le_bf16 {s t u : Shape} {axes : List (Fin s.rank)} (x : s.Idx → EReal) (init : u.Idx → EReal)
    (h : s.ReducesTo axes t) (hu : 0 < u.numel) (j : t.Idx) (hdrop : ∀ i, h.drop i = j)
    (hinit : init (Shape.Idx.first hu) = ⊥) (b : EReal) :
    Host.reduce (FloatOps.maximumf (F := Ideal) (φ := .bf16)) x init h hu j ≤ b ↔ ∀ i, x i ≤ b :=
  hostMax_le x init h hu j hdrop hinit b

/-- A maximum reduction in a kernel body over one axis, from `-∞`: it is at most `b` when every entry of its column is. -/
theorem bodyMax_le {s t : Shape} {a : Fin s.rank} (src : FVec Ideal s .f32) (h : s.Reduces [a] t)
    (hφ : FKind.Formats .f32) (hacc : (0xFF800000#32 : BitVec 32) = FKind.maximumf.neutral .f32 hφ) (j : t.Idx) (b : EReal) :
    (multiReduction .maximumf [a] t src 0xFF800000#32 h hφ hacc j : EReal) ≤ b ↔ ∀ k, (src (h.lift j k) : EReal) ≤ b := by
  rw [Ideal.multiReduction_maximumf_single]
  refine (Finset.fold_max_le (s := (Finset.univ : Finset (Fin (s.size a)))) (f := src ∘ h.lift j) _).trans ?_
  show ((Ideal.ofBits .f32 0xFF800000#32 : EReal) ≤ b ∧ _) ↔ _
  rw [negInf]; simp

end Cert.Math

end
-- ==== Proof.Value.GradsPay.lean ====
/-
The payloads of the gradients' call of `KernelIdeal` (region 1), at an index: the code of a row chunk of `x` and of a
block of `w`, the partial maxima of a chunk, the chunk of `dx`, the block of `dw`.
-/
module

public import proofs.«01_k».proof.Proof.KernelIdealFrame.Region1
public import proofs.«01_k».proof.Proof.Value.Pure
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Math

/-- The f8e4m3 code of `x` at the inverse scale `s`. -/
def code4 (x s : EReal) : EReal :=
  min (Ideal.ofBits .f32 1138753536#32) (max (Ideal.ofBits .f32 3286237184#32) (x * s))

/-! ## The codes of the twelve row chunks of `x` -/

theorem k1_pay7_apply (v : Vec Ideal S512x256 .bf16) (s : Elt Ideal .f32) (y : S512x256.Idx) :
    (k1_pay7 v s y : EReal) = code4 (v y) s := by
  pointwise [k1_pay7, k1_pay6]
  rfl

theorem k1_pay13_apply (v : Vec Ideal S512x256 .bf16) (s : Elt Ideal .f32) (y : S512x256.Idx) :
    (k1_pay13 v s y : EReal) = code4 (v y) s := by
  pointwise [k1_pay13, k1_pay12]
  rfl

theorem k1_pay16_apply (v : Vec Ideal S512x256 .bf16) (s : Elt Ideal .f32) (y : S512x256.Idx) :
    (k1_pay16 v s y : EReal) = code4 (v y) s := by
  pointwise [k1_pay16, k1_pay15]
  rfl

theorem k1_pay18_apply (v : Vec Ideal S512x256 .bf16) (s : Elt Ideal .f32) (y : S512x256.Idx) :
    (k1_pay18 v s y : EReal) = code4 (v y) s := by
  pointwise [k1_pay18, k1_pay17]
  rfl

theorem k1_pay21_apply (v : Vec Ideal S512x256 .bf16) (s : Elt Ideal .f32) (y : S512x256.Idx) :
    (k1_pay21 v s y : EReal) = code4 (v y) s := by
  pointwise [k1_pay21, k1_pay20]
  rfl

theorem k1_pay24_apply (v : Vec Ideal S512x256 .bf16) (s : Elt Ideal .f32) (y : S512x256.Idx) :
    (k1_pay24 v s y : EReal) = code4 (v y) s := by
  pointwise [k1_pay24, k1_pay23]
  rfl

theorem k1_pay26_apply (v : Vec Ideal S512x256 .bf16) (s : Elt Ideal .f32) (y : S512x256.Idx) :
    (k1_pay26 v s y : EReal) = code4 (v y) s := by
  pointwise [k1_pay26, k1_pay25]
  rfl

theorem k1_pay32_apply (v : Vec Ideal S512x256 .bf16) (s : Elt Ideal .f32) (y : S512x256.Idx) :
    (k1_pay32 v s y : EReal) = code4 (v y) s := by
  pointwise [k1_pay32, k1_pay31]
  rfl

theorem k1_pay38_apply (v : Vec Ideal S512x256 .bf16) (s : Elt Ideal .f32) (y : S512x256.Idx) :
    (k1_pay38 v s y : EReal) = code4 (v y) s := by
  pointwise [k1_pay38, k1_pay37]
  rfl

theorem k1_pay11_apply (v : Vec Ideal S512x256 .bf16) (s : Elt Ideal .f32) (y : S512x256.Idx) :
    (k1_pay11 (k1_pay10 v s) y : EReal) = code4 (v y) s := by
  pointwise [k1_pay11, k1_pay10, k1_pay9]
  rfl

theorem k1_pay30_apply (v : Vec Ideal S512x256 .bf16) (s : Elt Ideal .f32) (y : S512x256.Idx) :
    (k1_pay30 s (k1_pay29 v) y : EReal) = code4 (v y) s := by
  pointwise [k1_pay30, k1_pay29, k1_pay28]
  rfl

theorem k1_pay36_apply (v : Vec Ideal S512x256 .bf16) (s : Elt Ideal .f32) (y : S512x256.Idx) :
    (k1_pay36 (k1_pay35 v s) y : EReal) = code4 (v y) s := by
  pointwise [k1_pay36, k1_pay35, k1_pay34]
  rfl

/-! ## The block of `w` -/

theorem k1_pay4_apply (v : Vec Ideal S256x1280 .f32) (s : Elt Ideal .f32) (y : S256x1280.Idx) :
    (k1_pay4 v s y : EReal) = code4 (v y) s := by
  pointwise [k1_pay4]
  rfl

theorem k1_pay5_le (v : Vec Ideal S256x1280 .f32) (y : S8x1280.Idx) (b : EReal) :
    (k1_pay5 v y : EReal) ≤ b
      ↔ ∀ k : Fin 32, absE (v (ix2 (n0 := 256) ⟨k.val * 8 + (y 0).val, by idx_bounds y; omega⟩ (y 1))) ≤ b := by
  pointwise [k1_pay5]
  exact fold_le _ _

theorem k1_pay3_le (u v : Vec Ideal S8x1280 .f32) (y : S8x1280.Idx) (b : EReal) :
    (k1_pay3 u v y : EReal) ≤ b ↔ (v y : EReal) ≤ b ∧ (u y : EReal) ≤ b := by
  have h : (k1_pay3 u v y : EReal) = max (v y : EReal) (u y) := by
    pointwise [k1_pay3]
  rw [h, max_le_iff]

/-! ## The partial maxima of `|x|` -/

/-- Every entry of a row chunk that falls on the place `y` of the 8 x 256 maxima is at most `b`, in absolute value. -/
def ChunkLe (v : S512x256.Idx → EReal) (y : S8x256.Idx) (b : EReal) : Prop :=
  ∀ k : Fin 64, absE (v (ix2 (n0 := 512) ⟨k.val * 8 + (y 0).val, by idx_bounds y; omega⟩ (y 1))) ≤ b

theorem k1_pay2_le (u v : Vec Ideal S8x256 .f32) (y : S8x256.Idx) (b : EReal) :
    (k1_pay2 u v y : EReal) ≤ b ↔ (v y : EReal) ≤ b ∧ (u y : EReal) ≤ b := by
  have h : (k1_pay2 u v y : EReal) = max (v y : EReal) (u y) := by
    pointwise [k1_pay2]
  rw [h, max_le_iff]

theorem k1_pay8_le (v : Vec Ideal S512x256 .bf16) (y : S8x256.Idx) (b : EReal) :
    (k1_pay8 v y : EReal) ≤ b ↔ 0 ≤ b ∧ ChunkLe v y b := by
  pointwise [k1_pay8, k1_pay6]
  rw [max_le_iff]
  exact and_congr Iff.rfl (fold_le _ _)

theorem k1_pay22_le (v : Vec Ideal S512x256 .bf16) (y : S8x256.Idx) (b : EReal) :
    (k1_pay22 v y : EReal) ≤ b ↔ ChunkLe v y b := by
  pointwise [k1_pay22, k1_pay20]
  exact fold_le _ _

theorem k1_pay14_le (m : Vec Ideal S8x256 .f32) (u v : Vec Ideal S512x256 .bf16) (y : S8x256.Idx) (b : EReal) :
    (k1_pay14 m (k1_pay9 u) v y : EReal) ≤ b ↔ ((m y : EReal) ≤ b ∧ ChunkLe u y b) ∧ ChunkLe v y b := by
  have h : (k1_pay14 m (k1_pay9 u) v y : EReal)
      = max (max (m y : EReal) (k1_pay22 u y)) (k1_pay22 v y) := rfl
  rw [h, max_le_iff, max_le_iff, k1_pay22_le, k1_pay22_le]

theorem k1_pay19_le (m : Vec Ideal S8x256 .f32) (u v : Vec Ideal S512x256 .bf16) (y : S8x256.Idx) (b : EReal) :
    (k1_pay19 m (k1_pay15 u) v y : EReal) ≤ b ↔ ((m y : EReal) ≤ b ∧ ChunkLe u y b) ∧ ChunkLe v y b := by
  have h : (k1_pay19 m (k1_pay15 u) v y : EReal)
      = max (max (m y : EReal) (k1_pay22 u y)) (k1_pay22 v y) := rfl
  rw [h, max_le_iff, max_le_iff, k1_pay22_le, k1_pay22_le]

theorem k1_pay33_le (m : Vec Ideal S8x256 .f32) (u v : Vec Ideal S512x256 .bf16) (y : S8x256.Idx) (b : EReal) :
    (k1_pay33 m (k1_pay28 u) v y : EReal) ≤ b ↔ ((m y : EReal) ≤ b ∧ ChunkLe u y b) ∧ ChunkLe v y b := by
  have h : (k1_pay33 m (k1_pay28 u) v y : EReal)
      = max (max (m y : EReal) (k1_pay22 u y)) (k1_pay22 v y) := rfl
  rw [h, max_le_iff, max_le_iff, k1_pay22_le, k1_pay22_le]

theorem k1_pay39_le (m : Vec Ideal S8x256 .f32) (u v : Vec Ideal S512x256 .bf16) (y : S8x256.Idx) (b : EReal) :
    (k1_pay39 m (k1_pay34 u) v y : EReal) ≤ b ↔ ((m y : EReal) ≤ b ∧ ChunkLe u y b) ∧ ChunkLe v y b := by
  have h : (k1_pay39 m (k1_pay34 u) v y : EReal)
      = max (max (m y : EReal) (k1_pay22 u y)) (k1_pay22 v y) := rfl
  rw [h, max_le_iff, max_le_iff, k1_pay22_le, k1_pay22_le]

theorem k1_pay27_le (m n : Vec Ideal S8x256 .f32) (u v : Vec Ideal S512x256 .bf16) (y : S8x256.Idx) (b : EReal) :
    (k1_pay27 m n u v y : EReal) ≤ b
      ↔ (((m y : EReal) ≤ b ∧ (n y : EReal) ≤ b) ∧ ChunkLe u y b) ∧ ChunkLe v y b := by
  have h : (k1_pay27 m n u v y : EReal)
      = max (max (max (m y : EReal) (n y)) (k1_pay22 u y)) (k1_pay22 v y) := rfl
  rw [h, max_le_iff, max_le_iff, max_le_iff, k1_pay22_le, k1_pay22_le]

/-! ## The twelve row chunks of `dx` -/

theorem k1_pay40_apply (g : Vec Ideal S512x1280 .fp8e5m2) (w : Vec Ideal S256x1280 .fp8e4m3) (s : Elt Ideal .f32)
    (y : S64x8x256.Idx) :
    (k1_pay40 g w s y : EReal)
      = (∑ n : Fin 1280, (g (ix2 (n0 := 512) ⟨(y 0).val * 8 + (y 1).val, by idx_bounds y; omega⟩ n) : EReal)
          * w (ix2 (y 2) n)) * s := by
  pointwise [k1_pay40, dot_S512x1280_S256x1280_S512x256_1_1_0_0_n_n]

theorem k1_pay41_eq (g : Vec Ideal S512x1280 .fp8e5m2) (w : Vec Ideal S256x1280 .fp8e4m3) (s : Elt Ideal .f32) :
    k1_pay41 g w s = k1_pay40 g w s := rfl

theorem k1_pay42_eq (g : Vec Ideal S512x1280 .fp8e5m2) (w : Vec Ideal S256x1280 .fp8e4m3) (s : Elt Ideal .f32) :
    k1_pay42 g w s = k1_pay40 g w s := rfl

theorem k1_pay43_eq (g : Vec Ideal S512x1280 .fp8e5m2) (w : Vec Ideal S256x1280 .fp8e4m3) (s : Elt Ideal .f32) :
    k1_pay43 g w s = k1_pay40 g w s := rfl

theorem k1_pay44_eq (g : Vec Ideal S512x1280 .fp8e5m2) (w : Vec Ideal S256x1280 .fp8e4m3) (s : Elt Ideal .f32) :
    k1_pay44 g w s = k1_pay40 g w s := rfl

theorem k1_pay45_eq (g : Vec Ideal S512x1280 .fp8e5m2) (w : Vec Ideal S256x1280 .fp8e4m3) (s : Elt Ideal .f32) :
    k1_pay45 g w s = k1_pay40 g w s := rfl

theorem k1_pay46_eq (g : Vec Ideal S512x1280 .fp8e5m2) (w : Vec Ideal S256x1280 .fp8e4m3) (s : Elt Ideal .f32) :
    k1_pay46 g w s = k1_pay40 g w s := rfl

theorem k1_pay47_eq (g : Vec Ideal S512x1280 .fp8e5m2) (w : Vec Ideal S256x1280 .fp8e4m3) (s : Elt Ideal .f32) :
    k1_pay47 g w s = k1_pay40 g w s := rfl

theorem k1_pay48_eq (g : Vec Ideal S512x1280 .fp8e5m2) (w : Vec Ideal S256x1280 .fp8e4m3) (s : Elt Ideal .f32) :
    k1_pay48 g w s = k1_pay40 g w s := rfl

theorem k1_pay51_eq (g : Vec Ideal S512x1280 .fp8e5m2) (w : Vec Ideal S256x1280 .fp8e4m3) (s : Elt Ideal .f32) :
    k1_pay51 g w s = k1_pay40 g w s := rfl

theorem k1_pay52_eq (g : Vec Ideal S512x1280 .fp8e5m2) (w : Vec Ideal S256x1280 .fp8e4m3) (s : Elt Ideal .f32) :
    k1_pay52 g w s = k1_pay40 g w s := rfl

theorem k1_pay50_eq (g : Vec Ideal S512x1280 .fp8e5m2) (w : Vec Ideal S256x1280 .fp8e4m3) (s : Elt Ideal .f32) :
    k1_pay50 (k1_pay49 g w s) = k1_pay40 g w s := rfl

/-! ## The block of `dw` -/

theorem k1_pay1_apply (x : Vec Ideal S6144x256 .fp8e4m3) (g : Vec Ideal S6144x1280 .fp8e5m2) (s : Elt Ideal .f32)
    (y : S256x1280.Idx) :
    (k1_pay1 (k1_pay53 x g) s y : EReal)
      = (∑ n : Fin 6144, (x (ix2 n (y 0)) : EReal) * g (ix2 n (y 1))) * s := by
  pointwise [k1_pay1, k1_pay53, dot_S6144x256_S6144x1280_S256x1280_0_0_1_1_n_n]

end Cert.KernelIdeal.Val

end
-- ==== Proof.Value.Grads.lean ====
/-
The gradients' call of `KernelIdeal` (region 1), point by point: what each of its six outputs' blocks holds after a grid
point, as a function of the point's input blocks.
-/
module

public import proofs.«01_k».proof.Proof.KernelIdealFrame.Region1
public import proofs.«01_k».proof.Proof.Value.GradsPay
public import proofs.«01_k».proof.Proof.Value.Fwd
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b))

theorem idx1_0 : ∀ t : Fin cfg1.N, win1_0.index t = ![0] := (by decide +kernel : ∀ t : Fin grid1.N, _)
theorem idx1_1 : ∀ t : Fin cfg1.N, win1_1.index t = ![0, t.val] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, t.val] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![0, 0, t.val] := (by decide +kernel : ∀ t : Fin grid1.N, _)
theorem idx1_7 : ∀ t : Fin cfg1.N, win1_7.index t = ![t.val, 0] := (by decide +kernel : ∀ t : Fin grid1.N, _)

/-- The region's scalar 0, as a grid point reads it. -/
theorem scal1_0 (c : Dev nD) (t : Fin cfg1.N) (inb) (i : (Rect.unit (s := S4) ![0] ![1] inb).shape.Idx) :
    View.ld (iblk1 V c 0 t) (Rect.unit ![0] ![1] inb) i = V c main_v85 (ix1 0) := by
  refine (View.ld_unit_apply_of _ _ _ _ _ (ix1 0 : S4.Idx) fun a => ?_).trans ?_
  · fin_cases a
    have h1 : (i 0).val < 1 := (i 0).isLt
    show 0 = 0 + (i 0).val
    omega
  · blk_simp [iblk1, idx1_0]
    refine congrArg (V c main_v85) (funext fun a => Fin.ext ?_)
    fin_cases a
    blk_simp [idx1_0]

/-- The region's scalar 1, as a grid point reads it. -/
theorem scal1_1 (c : Dev nD) (t : Fin cfg1.N) (inb) (i : (Rect.unit (s := S4) ![1] ![1] inb).shape.Idx) :
    View.ld (iblk1 V c 0 t) (Rect.unit ![1] ![1] inb) i = V c main_v85 (ix1 1) := by
  refine (View.ld_unit_apply_of _ _ _ _ _ (ix1 1 : S4.Idx) fun a => ?_).trans ?_
  · fin_cases a
    have h1 : (i 0).val < 1 := (i 0).isLt
    show 1 = 1 + (i 0).val
    omega
  · blk_simp [iblk1, idx1_0]
    refine congrArg (V c main_v85) (funext fun a => Fin.ext ?_)
    fin_cases a
    blk_simp [idx1_0]

/-- The region's scalar 2, as a grid point reads it. -/
theorem scal1_2 (c : Dev nD) (t : Fin cfg1.N) (inb) (i : (Rect.unit (s := S4) ![2] ![1] inb).shape.Idx) :
    View.ld (iblk1 V c 0 t) (Rect.unit ![2] ![1] inb) i = V c main_v85 (ix1 2) := by
  refine (View.ld_unit_apply_of _ _ _ _ _ (ix1 2 : S4.Idx) fun a => ?_).trans ?_
  · fin_cases a
    have h1 : (i 0).val < 1 := (i 0).isLt
    show 2 = 2 + (i 0).val
    omega
  · blk_simp [iblk1, idx1_0]
    refine congrArg (V c main_v85) (funext fun a => Fin.ext ?_)
    fin_cases a
    blk_simp [idx1_0]

/-- The region's scalar 3, as a grid point reads it. -/
theorem scal1_3 (c : Dev nD) (t : Fin cfg1.N) (inb) (i : (Rect.unit (s := S4) ![3] ![1] inb).shape.Idx) :
    View.ld (iblk1 V c 0 t) (Rect.unit ![3] ![1] inb) i = V c main_v85 (ix1 3) := by
  refine (View.ld_unit_apply_of _ _ _ _ _ (ix1 3 : S4.Idx) fun a => ?_).trans ?_
  · fin_cases a
    have h1 : (i 0).val < 1 := (i 0).isLt
    show 3 = 3 + (i 0).val
    omega
  · blk_simp [iblk1, idx1_0]
    refine congrArg (V c main_v85) (funext fun a => Fin.ext ?_)
    fin_cases a
    blk_simp [idx1_0]

/-- A load of 512 rows of a block of `x` from row `o` on, at an index. -/
theorem ld_chunk (X : Vec Ideal S6144x256 .bf16) (o : ℕ) (inb) (i : S512x256.Idx) (j : S6144x256.Idx)
    (h0 : (j 0).val = o + (i 0).val) (h1 : (j 1).val = (i 1).val) :
    View.ld X (Rect.unit (s := S6144x256) ![o, 0] ![512, 256] inb) i = X j :=
  View.ld_unit_apply_of _ _ _ _ _ _ fun a => by
    fin_cases a
    · exact h0
    · exact h1.trans (Nat.zero_add _).symm

/-- The codes of `x`. -/
theorem pt4 (c : Dev nD) (t : Fin cfg1.N) (y : S6144x256.Idx) :
    ((outsAt1 V c t.val t.isLt).1 y : EReal) = code4 (iblk1 V c 1 t y) (V c main_v85 (ix1 0)) := by
  by_cases h : t.val = 0
  · rw [outsAt1_A V c t (by omega) (by omega)]
    frame_out
    canon_tiles x h
    all_goals
      first
        | refine (k1_pay7_apply _ _ _).trans ?_
        | refine (k1_pay11_apply _ _ _).trans ?_
        | refine (k1_pay13_apply _ _ _).trans ?_
        | refine (k1_pay16_apply _ _ _).trans ?_
        | refine (k1_pay18_apply _ _ _).trans ?_
        | refine (k1_pay21_apply _ _ _).trans ?_
        | refine (k1_pay24_apply _ _ _).trans ?_
        | refine (k1_pay26_apply _ _ _).trans ?_
        | refine (k1_pay30_apply _ _ _).trans ?_
        | refine (k1_pay32_apply _ _ _).trans ?_
        | refine (k1_pay36_apply _ _ _).trans ?_
        | refine (k1_pay38_apply _ _ _).trans ?_
      exact congrArg₂ code4 (ld_chunk _ _ _ _ _ (by omega) h1) (scal1_0 V c t _ _)
  · rw [outsAt1_B V c t (by have h6 : t.val < 31 := t.isLt; omega) (by omega)]
    frame_out
    canon_tiles x h
    all_goals
      first
        | refine (k1_pay7_apply _ _ _).trans ?_
        | refine (k1_pay11_apply _ _ _).trans ?_
        | refine (k1_pay13_apply _ _ _).trans ?_
        | refine (k1_pay16_apply _ _ _).trans ?_
        | refine (k1_pay18_apply _ _ _).trans ?_
        | refine (k1_pay21_apply _ _ _).trans ?_
        | refine (k1_pay24_apply _ _ _).trans ?_
        | refine (k1_pay26_apply _ _ _).trans ?_
        | refine (k1_pay30_apply _ _ _).trans ?_
        | refine (k1_pay32_apply _ _ _).trans ?_
        | refine (k1_pay36_apply _ _ _).trans ?_
        | refine (k1_pay38_apply _ _ _).trans ?_
      exact congrArg₂ code4 (ld_chunk _ _ _ _ _ (by omega) h1) (scal1_0 V c t _ _)

/-- The codes of `w`. -/
theorem pt5 (c : Dev nD) (t : Fin cfg1.N) (y : S256x1280.Idx) :
    ((outsAt1 V c t.val t.isLt).2.1 y : EReal) = code4 (iblk1 V c 2 t y) (V c main_v85 (ix1 1)) := by
  by_cases h : t.val = 0
  · rw [outsAt1_A V c t (by omega) (by omega)]
    frame_out
    exact (k1_pay4_apply _ _ _).trans (congrArg (code4 _) (scal1_1 V c t _ _))
  · rw [outsAt1_B V c t (by have h6 : t.val < 31 := t.isLt; omega) (by omega)]
    frame_out
    exact (k1_pay4_apply _ _ _).trans (congrArg (code4 _) (scal1_1 V c t _ _))

/-- A load of 512 rows from row `o` on, at an index. -/
theorem ld_rows (X : Vec Ideal S6144x1280 .fp8e5m2) (o : ℕ) (inb) (i : Fin 512) (n : Fin 1280) (r : Fin 6144)
    (h : r.val = o + i.val) :
    View.ld X (Rect.unit (s := S6144x1280) ![o, 0] ![512, 1280] inb) (ix2 i n) = X (ix2 r n) :=
  View.ld_unit_apply_of _ _ _ _ _ _ fun a => by
    fin_cases a
    · exact h
    · exact (Nat.zero_add _).symm

/-- The gradient of `x`. -/
theorem pt6 (c : Dev nD) (t : Fin cfg1.N) (y : S768x8x256.Idx) :
    ((outsAt1 V c t.val t.isLt).2.2.1 y : EReal)
      = sumMul (fun n : Fin 1280 => iblk1 V c 3 t (ix2 (tokRow (y 0) (y 1)) n))
          (fun n => code4 (iblk1 V c 2 t (ix2 (y 2) n)) (V c main_v85 (ix1 1))) (V c main_v85 (ix1 2)) := by
  by_cases h : t.val = 0
  · rw [outsAt1_A V c t (by omega) (by omega)]
    frame_out
    canon_tiles x h
    all_goals
      try simp only [k1_pay41_eq, k1_pay42_eq, k1_pay43_eq, k1_pay44_eq, k1_pay45_eq, k1_pay46_eq, k1_pay47_eq, k1_pay48_eq, k1_pay50_eq, k1_pay51_eq, k1_pay52_eq]
      refine (k1_pay40_apply _ _ _ _).trans (sumMul_congr
        (fun n => ld_rows _ _ _ _ _ _ ?_)
        (fun n => (k1_pay4_apply _ _ _).trans (congrArg₂ code4 (congrArg (iblk1 V c 2 t) ?_) (scal1_1 V c t _ _)))
        (scal1_2 V c t _ _))
      · show (y 0).val * 8 + (y 1).val = _ + ((x 0).val * 8 + (x 1).val)
        omega
      · exact congrArg (fun k => ix2 k n) (Fin.ext h2.symm)
  · rw [outsAt1_B V c t (by have h6 : t.val < 31 := t.isLt; omega) (by omega)]
    frame_out
    canon_tiles x h
    all_goals
      try simp only [k1_pay41_eq, k1_pay42_eq, k1_pay43_eq, k1_pay44_eq, k1_pay45_eq, k1_pay46_eq, k1_pay47_eq, k1_pay48_eq, k1_pay50_eq, k1_pay51_eq, k1_pay52_eq]
      refine (k1_pay40_apply _ _ _ _).trans (sumMul_congr
        (fun n => ld_rows _ _ _ _ _ _ ?_)
        (fun n => (k1_pay4_apply _ _ _).trans (congrArg₂ code4 (congrArg (iblk1 V c 2 t) ?_) (scal1_1 V c t _ _)))
        (scal1_2 V c t _ _))
      · show (y 0).val * 8 + (y 1).val = _ + ((x 0).val * 8 + (x 1).val)
        omega
      · exact congrArg (fun k => ix2 k n) (Fin.ext h2.symm)

/-- The rectangle of a whole buffer places an index at itself. -/
theorem idx_whole (inb) (j : S6144x256.Idx) :
    (Rect.unit (s := S6144x256) ![0, 0] ![6144, 256] inb).toLoadRect.idx j = j :=
  funext fun a => Fin.ext (by
    fin_cases a
    · show 0 + 1 * (j 0).val = (j 0).val
      omega
    · show 0 + 1 * (j 1).val = (j 1).val
      omega)

/-- The gradient of `w`. -/
theorem pt7 (c : Dev nD) (t : Fin cfg1.N) (y : S256x1280.Idx) :
    ((outsAt1 V c t.val t.isLt).2.2.2.1 y : EReal)
      = sumMul (fun n : Fin 6144 => code4 (iblk1 V c 1 t (ix2 n (y 0))) (V c main_v85 (ix1 0)))
          (fun n => iblk1 V c 3 t (ix2 n (y 1))) (V c main_v85 (ix1 3)) := by
  by_cases h : t.val = 0
  · rw [outsAt1_A V c t (by omega) (by omega)]
    frame_out
    refine (k1_pay1_apply _ _ _ _).trans (sumMul_congr (fun n => ?_) (fun n => rfl) (scal1_3 V c t _ _))
    refine (congrFun (View.readCov_eq_canon' _ _ _) _).trans ?_
    rw [idx_whole]
    canon_tiles x h
    all_goals
      first
        | refine (k1_pay7_apply _ _ _).trans ?_
        | refine (k1_pay11_apply _ _ _).trans ?_
        | refine (k1_pay13_apply _ _ _).trans ?_
        | refine (k1_pay16_apply _ _ _).trans ?_
        | refine (k1_pay18_apply _ _ _).trans ?_
        | refine (k1_pay21_apply _ _ _).trans ?_
        | refine (k1_pay24_apply _ _ _).trans ?_
        | refine (k1_pay26_apply _ _ _).trans ?_
        | refine (k1_pay30_apply _ _ _).trans ?_
        | refine (k1_pay32_apply _ _ _).trans ?_
        | refine (k1_pay36_apply _ _ _).trans ?_
        | refine (k1_pay38_apply _ _ _).trans ?_
      exact congrArg₂ code4 (ld_chunk _ _ _ _ _ (by omega) h1) (scal1_0 V c t _ _)
  · rw [outsAt1_B V c t (by have h6 : t.val < 31 := t.isLt; omega) (by omega)]
    frame_out
    refine (k1_pay1_apply _ _ _ _).trans (sumMul_congr (fun n => ?_) (fun n => rfl) (scal1_3 V c t _ _))
    refine (congrFun (View.readCov_eq_canon' _ _ _) _).trans ?_
    rw [idx_whole]
    canon_tiles x h
    all_goals
      first
        | refine (k1_pay7_apply _ _ _).trans ?_
        | refine (k1_pay11_apply _ _ _).trans ?_
        | refine (k1_pay13_apply _ _ _).trans ?_
        | refine (k1_pay16_apply _ _ _).trans ?_
        | refine (k1_pay18_apply _ _ _).trans ?_
        | refine (k1_pay21_apply _ _ _).trans ?_
        | refine (k1_pay24_apply _ _ _).trans ?_
        | refine (k1_pay26_apply _ _ _).trans ?_
        | refine (k1_pay30_apply _ _ _).trans ?_
        | refine (k1_pay32_apply _ _ _).trans ?_
        | refine (k1_pay36_apply _ _ _).trans ?_
        | refine (k1_pay38_apply _ _ _).trans ?_
      exact congrArg₂ code4 (ld_chunk _ _ _ _ _ (by omega) h1) (scal1_0 V c t _ _)

end Cert.KernelIdeal.Val

end
-- ==== Proof.Value.GradsArr.lean ====
/-
The gradients' call of `KernelIdeal` (region 1): what its four arrays of codes and products hold after the region, at the extended reals,
as functions of the arrays the region finds.
-/
module

public import proofs.«01_k».proof.Proof.KernelIdealFrame.Region1
public import proofs.«01_k».proof.Proof.Value.Grads
public import proofs.«01_k».proof.Proof.Value.Fwd
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b))

theorem codes_x_arr (c : Dev nD) :
    (dat1 V c).arrAt 4 cfg1.N
      = (fun j => code4 (V c main_v0 j) (V c main_v85 (ix1 0)) : S6144x7936.Idx → EReal) := by
  refine (dat1 V c).arrAt_eq_of_covers 4 _ (by decide +kernel) fun t hf y => ?_
  blk_simp
  rw [after1_4]
  refine (pt4 V c t y).trans ?_
  blk_simp [iblk1, idx1_1, idx1_4]
  refine congrArg (fun j => code4 (V c main_v0 j) (V c main_v85 (ix1 0))) ?_
  blk_ext [idx1_1, idx1_4]

theorem codes_w_arr (c : Dev nD) :
    (dat1 V c).arrAt 5 cfg1.N
      = (fun j => code4 (V c main_arg1 j) (V c main_v85 (ix1 1)) : S7936x1280.Idx → EReal) := by
  refine (dat1 V c).arrAt_eq_of_covers 5 _ (by decide +kernel) fun t hf y => ?_
  blk_simp
  rw [after1_5]
  refine (pt5 V c t y).trans ?_
  blk_simp [iblk1, idx1_2, idx1_5]
  refine congrArg (fun j => code4 (V c main_arg1 j) (V c main_v85 (ix1 1))) ?_
  blk_ext [idx1_2, idx1_5]

/-- The gradient of `x` from the codes `gy` of `dy` and the weights `w`, the token rows in 768 groups of 8. -/
def dxOut (gy : S6144x1280.Idx → EReal) (w : S7936x1280.Idx → EReal) (s1 s2 : EReal) : S768x8x7936.Idx → EReal :=
  fun i => sumMul (fun n : Fin 1280 => gy (ix2 (tokRow (i 0) (i 1)) n)) (fun n => code4 (w (ix2 (i 2) n)) s1) s2

theorem dx_arr (c : Dev nD) :
    (dat1 V c).arrAt 6 cfg1.N
      = dxOut (V c main_v78_0) (V c main_arg1) (V c main_v85 (ix1 1)) (V c main_v85 (ix1 2)) := by
  refine (dat1 V c).arrAt_eq_of_covers 6 _ (by decide +kernel) fun t hf y => ?_
  blk_simp
  rw [after1_6]
  refine (pt6 V c t y).trans ?_
  unfold dxOut
  blk_simp [iblk1, idx1_2, idx1_3, idx1_6]
  refine sumMul_congr (fun n => congrArg (V c main_v78_0) ?_)
    (fun n => congrArg (fun j => code4 (V c main_arg1 j) (V c main_v85 (ix1 1))) ?_) rfl
  · blk_ext [idx1_3, idx1_6]
    blk_simp [idx1_6]
  · blk_ext [idx1_2, idx1_6]

/-- The gradient of `w` from `x` and the codes `gy` of `dy`. -/
def dwOut (x : S6144x7936.Idx → EReal) (gy : S6144x1280.Idx → EReal) (s0 s3 : EReal) : S7936x1280.Idx → EReal :=
  fun i => sumMul (fun n : Fin 6144 => code4 (x (ix2 n (i 0))) s0) (fun n => gy (ix2 n (i 1))) s3

theorem dw_arr (c : Dev nD) :
    (dat1 V c).arrAt 7 cfg1.N
      = dwOut (V c main_v0) (V c main_v78_0) (V c main_v85 (ix1 0)) (V c main_v85 (ix1 3)) := by
  refine (dat1 V c).arrAt_eq_of_covers 7 _ (by decide +kernel) fun t hf y => ?_
  blk_simp
  rw [after1_7]
  refine (pt7 V c t y).trans ?_
  unfold dwOut
  blk_simp [iblk1, idx1_1, idx1_3, idx1_7]
  refine sumMul_congr (fun n => congrArg (fun j => code4 (V c main_v0 j) (V c main_v85 (ix1 0))) ?_)
    (fun n => congrArg (V c main_v78_0) ?_) rfl
  · blk_ext [idx1_1, idx1_7]
  · blk_ext [idx1_3, idx1_7]

end Cert.KernelIdeal.Val

end
-- ==== Proof.Value.Quant.lean ====
/-
The quantisation of `dy` in `KernelIdeal` (region 0): what its two output arrays hold after the region, at the extended
reals: the codes of `dy`, and an 8 x 1280 array of partial maxima of `|dy|`, known by its upper bounds.
-/
module

public import proofs.«01_k».proof.Proof.KernelIdealFrame.Region0
public import proofs.«01_k».proof.Proof.Value.Pure
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Math

/-- A value clipped to the range of f8e5m2. -/
def clip5 (z : EReal) : EReal := min (Ideal.ofBits .f32 1197473792#32) (max (Ideal.ofBits .f32 3344957440#32) z)

/-- The f8e5m2 code of `x` at the inverse scale `s`. -/
def code5 (x s : EReal) : EReal := clip5 (x * s)

theorem k0_pay1_eq (x1 : Vec Ideal S1024x1280 .bf16) : k0_pay1 x1 = x1 := by
  unfold k0_pay1
  exact shapeCast_self _ _

theorem k0_pay2_apply (x1 : Vec Ideal S1024x1280 .bf16) (s : Elt Ideal .f32) (y : S1024x1280.Idx) :
    (k0_pay2 x1 s y : EReal) = code5 (x1 y) s := by
  pointwise [k0_pay2, k0_pay1_eq]
  rfl

theorem k0_pay3_le (x1 : Vec Ideal S1024x1280 .bf16) (y : S8x1280.Idx) (b : EReal) :
    (k0_pay3 x1 y : EReal) ≤ b
      ↔ ∀ k : Fin 128, absE (x1 (ix2 (n0 := 1024) ⟨k.val * 8 + (y 0).val, by idx_bounds y; omega⟩ (y 1))) ≤ b := by
  pointwise [k0_pay3, k0_pay1_eq]
  exact fold_le _ _

theorem k0_pay4_le (x1 : Vec Ideal S1024x1280 .bf16) (v : Vec Ideal S8x1280 .f32) (y : S8x1280.Idx) (b : EReal) :
    (k0_pay4 x1 v y : EReal) ≤ b ↔ (v y : EReal) ≤ b ∧ (k0_pay3 x1 y : EReal) ≤ b := by
  have h : (k0_pay4 x1 v y : EReal) = max (v y : EReal) (k0_pay3 x1 y) := by
    pointwise [k0_pay4]
  rw [h, max_le_iff]

variable (V : (c : Dev nD) → (b : Ref sig .tc) → Buf (Elt Ideal) ((c : Thread nD τ).loc b))

theorem idx0_0 : ∀ t : Fin cfg0.N, win0_0.index t = ![0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![0, 0] := (by decide +kernel : ∀ t : Fin grid0.N, _)

/-- The scalar the region reads. -/
theorem scal0 (c : Dev nD) (t : Fin cfg0.N) (i : S1.Idx) : iblk0 V c 0 t i = V c main_v77 (ix1 0) := by
  blk_simp [iblk0, idx0_0]
  refine congrArg (V c main_v77) (funext fun a => ?_)
  fin_cases a
  exact Subsingleton.elim (α := Fin 1) _ _

theorem codes_pt (c : Dev nD) (t : Fin cfg0.N) (y : S1024x1280.Idx) :
    ((outsAt0 V c t.val t.isLt).1 y : EReal) = code5 (iblk0 V c 1 t y) (V c main_v77 (ix1 0)) := by
  by_cases h : t.val = 0
  · rw [outsAt0_A V c t (by omega) (by omega)]
    frame_out
    exact (k0_pay2_apply _ _ _).trans (congrArg (code5 _) (scal0 V c t _))
  · rw [outsAt0_B V c t (by have h6 : t.val < 6 := t.isLt; omega) (by omega)]
    frame_out
    exact (k0_pay2_apply _ _ _).trans (congrArg (code5 _) (scal0 V c t _))

theorem codes_dy_arr (c : Dev nD) :
    (dat0 V c).arrAt 2 cfg0.N
      = (fun j => code5 (V c main_v1 j) (V c main_v77 (ix1 0)) : S6144x1280.Idx → EReal) := by
  refine (dat0 V c).arrAt_eq_of_covers 2 _ (by decide +kernel) fun t hf y => ?_
  blk_simp
  rw [after0_2]
  refine (codes_pt V c t y).trans ?_
  blk_simp [iblk0, idx0_1, idx0_2]
  refine congrArg (fun j => code5 (V c main_v1 j) (V c main_v77 (ix1 0))) ?_
  blk_ext [idx0_1, idx0_2]

/-- The partial maxima after a point: the maximum over the rows of the points so far. -/
theorem amax_pt (c : Dev nD) (y : S8x1280.Idx) (b : EReal) : ∀ (n : ℕ) (hn : n < cfg0.N),
    ((outsAt0 V c n hn).2 y : EReal) ≤ b ↔ ∀ t : Fin cfg0.N, t.val ≤ n → (k0_pay3 (iblk0 V c 1 t) y : EReal) ≤ b
  | 0, hn => by
    have e : (outsAt0 V c 0 hn).2 y = k0_pay3 (iblk0 V c 1 ⟨0, hn⟩) y := by
      have := outsAt0_A V c ⟨0, hn⟩ (by simp) (by simp)
      simp only at this
      rw [this]
      frame_out
    rw [e]
    constructor
    · rintro h t ht
      obtain rfl : t = ⟨0, hn⟩ := Fin.ext (by simpa using ht)
      exact h
    · exact fun h => h ⟨0, hn⟩ le_rfl
  | n + 1, hn => by
    have e : (outsAt0 V c (n + 1) hn).2 y
        = k0_pay4 (iblk0 V c 1 ⟨n + 1, hn⟩) (outsAt0 V c n (Nat.lt_of_succ_lt hn)).2 y := by
      have := outsAt0_B V c ⟨n + 1, hn⟩ (by have h6 : n + 1 < 6 := hn; simp only; omega) (by simp)
      simp only at this
      rw [this]
      frame_out
      rfl
    rw [e, k0_pay4_le, amax_pt c y b n]
    constructor
    · rintro ⟨h, h'⟩ t ht
      rcases Nat.lt_or_ge t.val (n + 1) with hlt | hge
      · exact h t (by omega)
      · obtain rfl : t = ⟨n + 1, hn⟩ := Fin.ext (by simp only; omega)
        exact h'
    · exact fun h => ⟨fun t ht => h t (by omega), h ⟨n + 1, hn⟩ le_rfl⟩

/-- The last grid point. -/
def last0 : Fin cfg0.N := ⟨5, by decide⟩

/-- The partial maxima of `|dy|` after the last point. -/
def amaxDy (c : Dev nD) : S8x1280.Idx → EReal := (outsAt0 V c last0.val last0.isLt).2

theorem amax_dy_arr (c : Dev nD) : (dat0 V c).arrAt 3 cfg0.N = amaxDy V c := by
  refine (dat0 V c).arrAt_eq_of_after_last 3 last0 (by decide +kernel) _ fun y => ?_
  blk_simp
  exact congrFun (after0_3 V c last0) y

theorem amax_dy_le (c : Dev nD) (b : EReal) :
    (∀ y : S8x1280.Idx, amaxDy V c y ≤ b) ↔ ∀ j : S6144x1280.Idx, absE (V c main_v1 j) ≤ b := by
  have hN : cfg0.N = 6 := N_0
  constructor
  · intro h j
    have hj0 : (j 0).val < 6144 := (j 0).isLt
    have ht : (j 0).val / 1024 < cfg0.N := by omega
    have := (k0_pay3_le _ _ b).mp ((amax_pt V c (ix2 (n0 := 8) (n1 := 1280) ⟨(j 0).val % 8, by omega⟩ (j 1)) b last0.val
      last0.isLt).mp (h _) ⟨(j 0).val / 1024, ht⟩ (by show _ / 1024 ≤ 5; omega)) ⟨(j 0).val % 1024 / 8, by omega⟩
    refine le_of_eq_of_le (congrArg (fun i => absE (V c main_v1 i)) ?_) this
    blk_ext [idx0_1]
  · intro h y
    refine (amax_pt V c y b last0.val last0.isLt).mpr fun t _ => (k0_pay3_le _ _ b).mpr fun r => ?_
    exact h _

end Cert.KernelIdeal.Val

end
-- ==== Proof.Value.Scales.lean ====
/-
The powers of two the calls multiply by, as functions of a history.

A history's largest entry over the largest code is compared with the powers of two of `lit0`: the number of them it
reaches gives the exponent `expOf`. `powOf` picks 2^e out of a table of exponents and a table of powers. Both programs
compute the scales and their inverses so; the tables are parameters here, the same in both.
-/
module

public import proofs.«01_k».proof.Proof.KernelIdealFrame
public import Idealize.ShloMosaic.Lib.Pipeline.ValueKit
public import Idealize.ShloMosaic.Lib.StableHlo.RunRead
public import Idealize.ShloMosaic.Lib.Pointwise

@[expose] public section

noncomputable section

namespace Cert.KernelIdeal.Val

open Idealize.ShloMosaic Idealize.ShloMosaic.TcCoe Idealize.SL.Sem Idealize.ShloMosaic.StableHlo
open Cert.KernelIdeal Cert.KernelIdeal.Gen

/-- The largest entry of a history. -/
def amaxOf (h : FVec Ideal S16 .f32) : FVec Ideal S_ .f32 :=
  Host.reduce FloatOps.maximumf h (constant S_ .f32 0xFF800000#32) reducesTo_S16_S_d0 h_S_

/-- The absolute value of the largest entry of a history times the constant `k`. -/
def sizeOf' (h : FVec Ideal S16 .f32) (k : BitVec 32) : FVec Ideal S_ .f32 :=
  Host.absf (mulf (amaxOf h) (constant S_ .f32 k))

/-- The exponent e with 2^(e-1) ≤ size < 2^e, zero where the size or the largest entry is zero or the size is infinite. -/
def expOf (t0 : Fin 277 → BitVec 32) (h : FVec Ideal S16 .f32) (k : BitVec 32) : Vec Ideal S_ .i32 :=
  select (cmpf .oeq (amaxOf h) (constant S_ .f32 0x00000000#32)) (constantI S_ 32 0#32)
    (select (andi (cmpf .ogt (sizeOf' h k) (constant S_ .f32 0x00000000#32)) (cmpf .olt (sizeOf' h k) (constant S_ .f32 0x7F800000#32)))
      (subi (Host.reduce IntOp.addi (extui 32 (cmpf .oge (broadcastInDim S277 ![] bcast_S_S277 (sizeOf' h k))
          (fun i => FloatOps.ofBits .f32 (t0 (S277.rowMajor i)))) natLt_1_32) (constantI S_ 32 0#32) reducesTo_S277_S_d0 h_S_)
        (constantI S_ 32 149#32))
      (constantI S_ 32 0#32))

/-- The power of two of an exponent, picked out of the tables. -/
def powOf (t1 t2 : Fin 278 → BitVec 32) (e : Vec Ideal S_ .i32) : FVec Ideal S_ .f32 :=
  Host.reduceAdd (select (cmpi .eq (broadcastInDim S278 ![] bcast_S_S278 (minsi e (constantI S_ 32 128#32))) (fun i => t1 (S278.rowMajor i)))
    (fun i => FloatOps.ofBits .f32 (t2 (S278.rowMajor i))) (broadcastInDim S278 ![] bcast_S_S278 (constant S_ .f32 0x00000000#32)))
    (constant S_ .f32 0x00000000#32) reducesTo_S278_S_d0 h_S_

variable (m : (ℓ : Loc nD τ sig) → Buf (Elt Ideal) ℓ) (ρ : Dev nD → PrngReg) (c : Dev nD)

/-- The scale of a history: the power of two of its exponent. -/
abbrev scaleOf (h : FVec Ideal S16 .f32) (k : BitVec 32) : FVec Ideal S_ .f32 := powOf lit1 lit2 (expOf lit0 h k)

/-- The inverse of the scale of a history: the power of two of the negated exponent. -/
abbrev invOf (h : FVec Ideal S16 .f32) (k : BitVec 32) : FVec Ideal S_ .f32 := powOf lit1 lit2 (negi (expOf lit0 h k))

set_option maxHeartbeats 1000000 in
theorem v48_W25 : W25 m ρ c main_v48 = scaleOf (m ((c : Thread nD τ).loc main_arg3)) 0x3B124925#32 := by
  after_reads_simp
  simp -implicitDefEqProofs only [StableHlo.TRef.toBuf, StableHlo.TRef.ofBuf, cast_cast, cast_eq, id]
  rw [W0_args m ρ c main_arg3 (by decide)]
  rfl

set_option maxHeartbeats 1000000 in
theorem v53_W25 : W25 m ρ c main_v53 = scaleOf (m ((c : Thread nD τ).loc main_arg4)) 0x3B124925#32 := by
  after_reads_simp
  simp -implicitDefEqProofs only [StableHlo.TRef.toBuf, StableHlo.TRef.ofBuf, cast_cast, cast_eq, id]
  rw [W0_args m ρ c main_arg4 (by decide)]
  rfl

set_option maxHeartbeats 1000000 in
theorem v58_W25 : W25 m ρ c main_v58 = scaleOf (m ((c : Thread nD τ).loc main_arg5)) 0x37924925#32 := by
  after_reads_simp
  simp -implicitDefEqProofs only [StableHlo.TRef.toBuf, StableHlo.TRef.ofBuf, cast_cast, cast_eq, id]
  rw [W0_args m ρ c main_arg5 (by decide)]
  rfl

set_option maxHeartbeats 1000000 in
theorem v64_W25 : W25 m ρ c main_v64 = invOf (m ((c : Thread nD τ).loc main_arg3)) 0x3B124925#32 := by
  after_reads_simp
  simp -implicitDefEqProofs only [StableHlo.TRef.toBuf, StableHlo.TRef.ofBuf, cast_cast, cast_eq, id]
  rw [W0_args m ρ c main_arg3 (by decide)]
  rfl

set_option maxHeartbeats 1000000 in
theorem v70_W25 : W25 m ρ c main_v70 = invOf (m ((c : Thread nD τ).loc main_arg4)) 0x3B124925#32 := by
  after_reads_simp
  simp -implicitDefEqProofs only [StableHlo.TRef.toBuf, StableHlo.TRef.ofBuf, cast_cast, cast_eq, id]
  rw [W0_args m ρ c main_arg4 (by decide)]
  rfl

set_option maxHeartbeats 1000000 in
theorem v76_W25 : W25 m ρ c main_v76 = invOf (m ((c : Thread nD τ).loc main_arg5)) 0x37924925#32 := by
  after_reads_simp
  simp -implicitDefEqProofs only [StableHlo.TRef.toBuf, StableHlo.TRef.ofBuf, cast_cast, cast_eq, id]
  rw [W0_args m ρ c main_arg5 (by decide)]
  rfl

set_option maxHeartbeats 1000000 in
/-- Region 0's scalar. -/
theorem v77_W25 (i : S1.Idx) : W25 m ρ c main_v77 i = invOf (m ((c : Thread nD τ).loc main_arg5)) 0x37924925#32 ix0 := by
  have h : W25 m ρ c main_v77 = shapeCast S1 (W25 m ρ c main_v76 : FVec Ideal S_ .f32) shapeCasts_S_S1 := by
    after_reads_simp
    rfl
  rw [h, v76_W25]
  pointwise

/-- The token rows of `x`. -/
theorem v0_W25 : W25 m ρ c main_v0 = shapeCast S6144x7936 (m ((c : Thread nD τ).loc main_arg0) : FVec Ideal S6x1024x7936 .bf16) shapeCasts_S6x1024x7936_S6144x7936 := by
  after_reads_simp
  rfl

/-- The token rows of `dy`. -/
theorem v1_W25 : W25 m ρ c main_v1 = shapeCast S6144x1280 (m ((c : Thread nD τ).loc main_arg2) : FVec Ideal S6x1024x1280 .bf16) shapeCasts_S6x1024x1280_S6144x1280 := by
  after_reads_simp
  rfl

end Cert.KernelIdeal.Val

end
-- ==== Proof.Value.Spec.lean ====
/-
The twelve results as functions of the arguments, at the extended reals: the codes, the three products times their
scales, and the histories with a new last entry. Both programs are shown to leave these.
-/
module

public import proofs.«01_k».proof.Proof.Value.Fwd
public import proofs.«01_k».proof.Proof.Value.GradsArr
public import proofs.«01_k».proof.Proof.Value.Quant
public import proofs.«01_k».proof.Proof.Value.Scales

@[expose] public section

noncomputable section

namespace Cert.KernelIdeal.Val

open Idealize.ShloMosaic Idealize.ShloMosaic.TcCoe Idealize.SL.Sem
open Cert.KernelIdeal Cert.KernelIdeal.Gen Cert.Math

/-- The scale of a history for codes up to 448, and its inverse; the same for codes up to 57344. -/
def s4 (h : FVec Ideal S16 .f32) : EReal := scaleOf h 0x3B124925#32 ix0
@[inherit_doc s4] def i4 (h : FVec Ideal S16 .f32) : EReal := invOf h 0x3B124925#32 ix0
@[inherit_doc s4] def s5 (h : FVec Ideal S16 .f32) : EReal := scaleOf h 0x37924925#32 ix0
@[inherit_doc s4] def i5 (h : FVec Ideal S16 .f32) : EReal := invOf h 0x37924925#32 ix0

/-- The batch entry of token row `n`. -/
abbrev bOf (n : Fin 6144) : Fin 6 := ⟨n.val / 1024, by omega⟩
/-- The place of token row `n` in its batch entry. -/
abbrev sOf (n : Fin 6144) : Fin 1024 := ⟨n.val % 1024, by omega⟩

/-- The codes of `x` and the codes of `dy`. -/
def codesX (X : S6x1024x7936.Idx → EReal) (a : EReal) : S6x1024x7936.Idx → EReal := fun i => code4 (X i) a
@[inherit_doc codesX] def codesDy (D : S6x1024x1280.Idx → EReal) (a : EReal) : S6x1024x1280.Idx → EReal := fun i => code5 (D i) a
/-- The codes of `w`. -/
def codesW (W : S7936x1280.Idx → EReal) (a : EReal) : S7936x1280.Idx → EReal := fun i => code4 (W i) a

/-- `y`: the codes of `x` times the codes of `w`, times a scale. -/
def ySpec (X : S6x1024x7936.Idx → EReal) (W : S7936x1280.Idx → EReal) (a b s : EReal) : S6x1024x1280.Idx → EReal :=
  fun i => sumMul (fun k : Fin 7936 => codesX X a (ix3 (i 0) (i 1) k)) (fun k => codesW W b (ix2 k (i 2))) s

/-- `dx`: the codes of `dy` times the codes of `w` transposed, times a scale. -/
def dxSpec (D : S6x1024x1280.Idx → EReal) (W : S7936x1280.Idx → EReal) (a b s : EReal) : S6x1024x7936.Idx → EReal :=
  fun i => sumMul (fun n : Fin 1280 => codesDy D a (ix3 (i 0) (i 1) n)) (fun n => codesW W b (ix2 (i 2) n)) s

/-- `dw`: the codes of `x` transposed times the codes of `dy`, over all token rows, times a scale. -/
def dwSpec (X : S6x1024x7936.Idx → EReal) (D : S6x1024x1280.Idx → EReal) (a b s : EReal) : S7936x1280.Idx → EReal :=
  fun i => sumMul (fun n : Fin 6144 => codesX X a (ix3 (bOf n) (sOf n) (i 0))) (fun n => codesDy D b (ix3 (bOf n) (sOf n) (i 1))) s

/-- A history without its first entry and with `M` behind its last. -/
def histOf (h : FVec Ideal S16 .f32) (M : FVec Ideal S_ .f32) : FVec Ideal S16 .f32 :=
  concatenate S16 0 [⟨S15, extractStridedSlice S15 ![1] h slices_S16_S15_1⟩, ⟨S1, broadcastInDim S1 ![] bcast_S_S1 M⟩] concatenates_S15_S1_S16_d0

/-- `M` is the largest absolute value of `X`: its upper bounds are those of all the absolute values. -/
def IsAmax {s : Shape} (X : s.Idx → EReal) (M : FVec Ideal S_ .f32) : Prop := ∀ b : EReal, (M ix0 : EReal) ≤ b ↔ ∀ i, absE (X i) ≤ b

theorem IsAmax.unique {s : Shape} {X : s.Idx → EReal} {M M' : FVec Ideal S_ .f32} (h : IsAmax X M) (h' : IsAmax X M') : M = M' := by
  funext j
  have hj : j = ix0 := funext fun a => a.elim0
  subst hj
  exact eq_of_forall_ge_iff fun b => (h b).trans (h' b).symm

/-- Token row `n` of a 3-dimensional array is row `n % 1024` of batch entry `n / 1024`. -/
theorem rows_x (X : S6x1024x7936.Idx → EReal) (n : Fin 6144) (k : Fin 7936) :
    shapeCast S6144x7936 X shapeCasts_S6x1024x7936_S6144x7936 (ix2 n k) = X (ix3 (bOf n) (sOf n) k) := by
  pointwise

theorem rows_dy (D : S6x1024x1280.Idx → EReal) (n : Fin 6144) (k : Fin 1280) :
    shapeCast S6144x1280 D shapeCasts_S6x1024x1280_S6144x1280 (ix2 n k) = D (ix3 (bOf n) (sOf n) k) := by
  pointwise

/-- The token row at place `s` of batch entry `b`. -/
abbrev rowOf (b : Fin 6) (s : Fin 1024) : Fin 6144 := ⟨b.val * 1024 + s.val, by omega⟩

theorem bOf_rowOf (b : Fin 6) (s : Fin 1024) : bOf (rowOf b s) = b := Fin.ext (by show (b.val * 1024 + s.val) / 1024 = b.val; omega)
theorem sOf_rowOf (b : Fin 6) (s : Fin 1024) : sOf (rowOf b s) = s := Fin.ext (by show (b.val * 1024 + s.val) % 1024 = s.val; omega)

theorem rows_x' (X : S6x1024x7936.Idx → EReal) (b : Fin 6) (s : Fin 1024) (k : Fin 7936) :
    shapeCast S6144x7936 X shapeCasts_S6x1024x7936_S6144x7936 (ix2 (rowOf b s) k) = X (ix3 b s k) := by
  rw [rows_x, bOf_rowOf, sOf_rowOf]

theorem rows_dy' (D : S6x1024x1280.Idx → EReal) (b : Fin 6) (s : Fin 1024) (k : Fin 1280) :
    shapeCast S6144x1280 D shapeCasts_S6x1024x1280_S6144x1280 (ix2 (rowOf b s) k) = D (ix3 b s k) := by
  rw [rows_dy, bOf_rowOf, sOf_rowOf]

/-- Token rows laid out again by batch entry. -/
theorem unrows_x (F : S6144x7936.Idx → EReal) (i : S6x1024x7936.Idx) :
    shapeCast S6x1024x7936 F shapeCasts_S6144x7936_S6x1024x7936 i = F (ix2 (rowOf (i 0) (i 1)) (i 2)) := by
  pointwise

theorem unrows_dy (F : S6144x1280.Idx → EReal) (i : S6x1024x1280.Idx) :
    shapeCast S6x1024x1280 F shapeCasts_S6144x1280_S6x1024x1280 i = F (ix2 (rowOf (i 0) (i 1)) (i 2)) := by
  pointwise

/-- Token rows in groups of 8 laid out again by batch entry. -/
theorem ungroups_x (F : S768x8x7936.Idx → EReal) (i : S6x1024x7936.Idx) :
    ∃ (p : Fin 768) (q : Fin 8), tokRow p q = rowOf (i 0) (i 1) ∧
      shapeCast S6x1024x7936 F shapeCasts_S768x8x7936_S6x1024x7936 i = F (ix3 p q (i 2)) := by
  have h0 : (i 0).val < 6 := (i 0).isLt
  have h1 : (i 1).val < 1024 := (i 1).isLt
  refine ⟨⟨(i 0).val * 128 + (i 1).val / 8, by omega⟩, ⟨(i 1).val % 8, by omega⟩, Fin.ext ?_, ?_⟩
  · show ((i 0).val * 128 + (i 1).val / 8) * 8 + (i 1).val % 8 = (i 0).val * 1024 + (i 1).val
    omega
  · pointwise

theorem ungroups_dy (F : S768x8x1280.Idx → EReal) (i : S6x1024x1280.Idx) :
    ∃ (p : Fin 768) (q : Fin 8), tokRow p q = rowOf (i 0) (i 1) ∧
      shapeCast S6x1024x1280 F shapeCasts_S768x8x1280_S6x1024x1280 i = F (ix3 p q (i 2)) := by
  have h0 : (i 0).val < 6 := (i 0).isLt
  have h1 : (i 1).val < 1024 := (i 1).isLt
  refine ⟨⟨(i 0).val * 128 + (i 1).val / 8, by omega⟩, ⟨(i 1).val % 8, by omega⟩, Fin.ext ?_, ?_⟩
  · show ((i 0).val * 128 + (i 1).val / 8) * 8 + (i 1).val % 8 = (i 0).val * 1024 + (i 1).val
    omega
  · pointwise

/-- A bound of all the token rows' absolute values is one of all the array's. -/
theorem abs_rows_x (X : S6x1024x7936.Idx → EReal) (b : EReal) :
    (∀ j, absE (shapeCast S6144x7936 X shapeCasts_S6x1024x7936_S6144x7936 j) ≤ b) ↔ ∀ i, absE (X i) ≤ b := by
  constructor
  · intro h i
    exact ((congrArg (fun y => absE (X y)) (ix3_eta i).symm).trans
      (congrArg absE (rows_x' X (i 0) (i 1) (i 2)).symm)).trans_le (h _)
  · intro h j
    exact ((congrArg (fun y => absE (shapeCast S6144x7936 X shapeCasts_S6x1024x7936_S6144x7936 y)) (ix2_eta j).symm).trans
      (congrArg absE (rows_x X (j 0) (j 1)))).trans_le (h _)

theorem abs_rows_dy (D : S6x1024x1280.Idx → EReal) (b : EReal) :
    (∀ j, absE (shapeCast S6144x1280 D shapeCasts_S6x1024x1280_S6144x1280 j) ≤ b) ↔ ∀ i, absE (D i) ≤ b := by
  constructor
  · intro h i
    exact ((congrArg (fun y => absE (D y)) (ix3_eta i).symm).trans
      (congrArg absE (rows_dy' D (i 0) (i 1) (i 2)).symm)).trans_le (h _)
  · intro h j
    exact ((congrArg (fun y => absE (shapeCast S6144x1280 D shapeCasts_S6x1024x1280_S6144x1280 y)) (ix2_eta j).symm).trans
      (congrArg absE (rows_dy D (j 0) (j 1)))).trans_le (h _)

end Cert.KernelIdeal.Val

end
-- ==== Proof.Value.GradsMax.lean ====
/-
The gradients' call of `KernelIdeal` (region 1): what its partial maxima of `|x|` and of `|w|` hold, by their upper
bounds.
-/
module

public import proofs.«01_k».proof.Proof.KernelIdealFrame.Region1
public import proofs.«01_k».proof.Proof.Value.Grads
public import proofs.«01_k».proof.Proof.Value.Fwd
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Math

/-- Every entry of row chunk `q` of a block of `x` that falls on the place `y` of the 8 x 256 maxima is at most `b`, in
    absolute value. -/
def ChunkAt (X : Vec Ideal S6144x256 .bf16) (q : Fin 12) (y : S8x256.Idx) (b : EReal) : Prop :=
  ∀ k : Fin 64, absE (X (ix2 (n0 := 6144) ⟨512 * q.val + (k.val * 8 + (y 0).val), by idx_bounds y; omega⟩ (y 1))) ≤ b

theorem chunk_le (X : Vec Ideal S6144x256 .bf16) (o : ℕ) (inb) (q : Fin 12) (ho : o = 512 * q.val) (y : S8x256.Idx)
    (b : EReal) :
    ChunkLe (View.ld X (Rect.unit (s := S6144x256) ![o, 0] ![512, 256] inb)) y b ↔ ChunkAt X q y b := by
  refine forall_congr' fun k => ?_
  rw [ld_chunk X o inb (ix2 (n0 := 512) ⟨k.val * 8 + (y 0).val, by idx_bounds y; omega⟩ (y 1))
    (ix2 (n0 := 6144) ⟨512 * q.val + (k.val * 8 + (y 0).val), by idx_bounds y; omega⟩ (y 1)) (by subst ho; rfl) rfl]

/-- The maximum over the twelve row chunks of a block of `x`. -/
theorem chain_le (X : Vec Ideal S6144x256 .bf16) (y : S8x256.Idx) (b : EReal) :
    (k1_pay39
        (k1_pay33
          (k1_pay27
            (k1_pay19
              (k1_pay14 (k1_pay8 (View.ld X (Rect.unit ![0, 0] ![512, 256] inb_S6144x256_S512x256_0_0)))
                (k1_pay9 (View.ld X (Rect.unit ![512, 0] ![512, 256] inb_S6144x256_S512x256_512_0)))
                (View.ld X (Rect.unit ![1024, 0] ![512, 256] inb_S6144x256_S512x256_1024_0)))
              (k1_pay15 (View.ld X (Rect.unit ![1536, 0] ![512, 256] inb_S6144x256_S512x256_1536_0)))
              (View.ld X (Rect.unit ![2048, 0] ![512, 256] inb_S6144x256_S512x256_2048_0)))
            (k1_pay22 (View.ld X (Rect.unit ![2560, 0] ![512, 256] inb_S6144x256_S512x256_2560_0)))
            (View.ld X (Rect.unit ![3072, 0] ![512, 256] inb_S6144x256_S512x256_3072_0))
            (View.ld X (Rect.unit ![3584, 0] ![512, 256] inb_S6144x256_S512x256_3584_0)))
          (k1_pay28 (View.ld X (Rect.unit ![4096, 0] ![512, 256] inb_S6144x256_S512x256_4096_0)))
          (View.ld X (Rect.unit ![4608, 0] ![512, 256] inb_S6144x256_S512x256_4608_0)))
        (k1_pay34 (View.ld X (Rect.unit ![5120, 0] ![512, 256] inb_S6144x256_S512x256_5120_0)))
        (View.ld X (Rect.unit ![5632, 0] ![512, 256] inb_S6144x256_S512x256_5632_0)) y : EReal) ≤ b
      ↔ ∀ r : Fin 768, absE (X (ix2 (tokRow r (y 0)) (y 1))) ≤ b := by
  rw [k1_pay39_le, k1_pay33_le, k1_pay27_le, k1_pay19_le, k1_pay14_le, k1_pay8_le, k1_pay22_le,
    chunk_le X 0 _ 0 rfl, chunk_le X 512 _ 1 rfl, chunk_le X 1024 _ 2 rfl, chunk_le X 1536 _ 3 rfl, chunk_le X 2048 _ 4 rfl, chunk_le X 2560 _ 5 rfl, chunk_le X 3072 _ 6 rfl, chunk_le X 3584 _ 7 rfl, chunk_le X 4096 _ 8 rfl, chunk_le X 4608 _ 9 rfl, chunk_le X 5120 _ 10 rfl, chunk_le X 5632 _ 11 rfl]
  constructor
  · intro h r
    have key : ∀ q : Fin 12, ChunkAt X q y b := by
      obtain ⟨⟨⟨⟨⟨⟨⟨⟨⟨⟨⟨⟨h0, c0⟩, c1⟩, c2⟩, c3⟩, c4⟩, c5⟩, c6⟩, c7⟩, c8⟩, c9⟩, c10⟩, c11⟩ := h
      intro q
      fin_cases q <;> assumption
    have hk := key ⟨r.val / 64, by omega⟩ ⟨r.val % 64, by omega⟩
    refine le_of_eq_of_le (congrArg (fun n => absE (X (ix2 n (y 1)))) (Fin.ext ?_)) hk
    show r.val * 8 + (y 0).val = 512 * (r.val / 64) + (r.val % 64 * 8 + (y 0).val)
    omega
  · intro h
    have key : ∀ q : Fin 12, ChunkAt X q y b := by
      intro q k
      refine le_of_eq_of_le (congrArg (fun n => absE (X (ix2 n (y 1)))) (Fin.ext ?_))
        (h ⟨64 * q.val + k.val, by omega⟩)
      show 512 * q.val + (k.val * 8 + (y 0).val) = (64 * q.val + k.val) * 8 + (y 0).val
      omega
    have h0 : 0 ≤ b := (absE_nonneg _).trans (h 0)
    exact ⟨⟨⟨⟨⟨⟨⟨⟨⟨⟨⟨⟨h0, key 0⟩, key 1⟩, key 2⟩, key 3⟩, key 4⟩, key 5⟩, key 6⟩, key 7⟩, key 8⟩, key 9⟩, key 10⟩,
      key 11⟩

variable (V : (c : Dev nD) → (b : Ref sig .tc) → Buf (Elt Ideal) ((c : Thread nD τ).loc b))

/-- The partial maxima of `|x|` after a point: over the column blocks of the points so far. -/
theorem amax_x_pt (c : Dev nD) (y : S8x256.Idx) (b : EReal) : ∀ (n : ℕ) (hn : n < cfg1.N),
    ((outsAt1 V c n hn).2.2.2.2.1 y : EReal) ≤ b ↔ ∀ t : Fin cfg1.N, t.val ≤ n → ∀ r : Fin 768, absE (iblk1 V c 1 t (ix2 (tokRow r (y 0)) (y 1))) ≤ b
  | 0, hn => by
    have e := outsAt1_A V c ⟨0, hn⟩ (by simp) (by simp)
    simp only at e
    rw [e]
    frame_out
    refine (chain_le _ _ _).trans ⟨?_, fun h => h ⟨0, hn⟩ le_rfl⟩
    rintro h t ht
    obtain rfl : t = ⟨0, hn⟩ := Fin.ext (by simpa using ht)
    exact h
  | n + 1, hn => by
    have e := outsAt1_B V c ⟨n + 1, hn⟩ (by have h6 : n + 1 < 31 := hn; simp only; omega) (by simp)
    simp only at e
    rw [e]
    frame_out
    refine (k1_pay2_le _ _ _ _).trans ((and_congr (amax_x_pt c y b n (Nat.lt_of_succ_lt hn)) (chain_le _ _ _)).trans ⟨?_, ?_⟩)
    · rintro ⟨h, h'⟩ t ht
      rcases Nat.lt_or_ge t.val (n + 1) with hlt | hge
      · exact h t (by omega)
      · obtain rfl : t = ⟨n + 1, hn⟩ := Fin.ext (by simp only; omega)
        exact h'
    · exact fun h => ⟨fun t ht => h t (by omega), h ⟨n + 1, hn⟩ le_rfl⟩

/-- The partial maxima of `|w|` after a point: over the row blocks of the points so far. -/
theorem amax_w_pt (c : Dev nD) (y : S8x1280.Idx) (b : EReal) : ∀ (n : ℕ) (hn : n < cfg1.N),
    ((outsAt1 V c n hn).2.2.2.2.2 y : EReal) ≤ b ↔ ∀ t : Fin cfg1.N, t.val ≤ n → ∀ k : Fin 32,
      absE (iblk1 V c 2 t (ix2 (n0 := 256) ⟨k.val * 8 + (y 0).val, by idx_bounds y; omega⟩ (y 1))) ≤ b
  | 0, hn => by
    have e := outsAt1_A V c ⟨0, hn⟩ (by simp) (by simp)
    simp only at e
    rw [e]
    frame_out
    refine (k1_pay5_le _ _ _).trans ⟨?_, fun h => h ⟨0, hn⟩ le_rfl⟩
    rintro h t ht
    obtain rfl : t = ⟨0, hn⟩ := Fin.ext (by simpa using ht)
    exact h
  | n + 1, hn => by
    have e := outsAt1_B V c ⟨n + 1, hn⟩ (by have h6 : n + 1 < 31 := hn; simp only; omega) (by simp)
    simp only at e
    rw [e]
    frame_out
    refine (k1_pay3_le _ _ _ _).trans ((and_congr (amax_w_pt c y b n (Nat.lt_of_succ_lt hn)) (k1_pay5_le _ _ _)).trans ⟨?_, ?_⟩)
    · rintro ⟨h, h'⟩ t ht
      rcases Nat.lt_or_ge t.val (n + 1) with hlt | hge
      · exact h t (by omega)
      · obtain rfl : t = ⟨n + 1, hn⟩ := Fin.ext (by simp only; omega)
        exact h'
    · exact fun h => ⟨fun t ht => h t (by omega), h ⟨n + 1, hn⟩ le_rfl⟩

end Cert.KernelIdeal.Val

end
-- ==== Proof.Value.GradsMaxArr.lean ====
/-
The gradients' call of `KernelIdeal` (region 1): its two arrays of partial maxima after the region, known by the upper
bounds of all their entries together.
-/
module

public import proofs.«01_k».proof.Proof.KernelIdealFrame.Region1
public import proofs.«01_k».proof.Proof.Value.GradsMax
public import proofs.«01_k».proof.Proof.Value.Fwd
public import Idealize.ShloMosaic.Lib.Pipeline.ValueKit
public import Idealize.ShloMosaic.Lib.Pointwise
public import Idealize.ShloMosaic.Lib.Pipeline.Value

@[expose] public section

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.Math

variable (V : (c : Dev nD) → (b : Ref sig .tc) → Buf (Elt Ideal) ((c : Thread nD τ).loc b))

theorem amax_x_last (c : Dev nD) (t : Fin cfg1.N) (ht : t.val = 30) :
    (dat1 V c).arrAt 8 cfg1.N = (outsAt1 V c t.val t.isLt).2.2.2.2.1 := by
  have hw : (cfg1.win 8).WholeAt t := by
    rw [Fin.ext (show t.val = (⟨30, by decide⟩ : Fin cfg1.N).val from ht)]
    decide +kernel
  refine (dat1 V c).arrAt_eq_of_after_last 8 t hw _ fun y => ?_
  blk_simp
  exact congrFun (after1_8 V c t) y

theorem amax_x_le (c : Dev nD) (t : Fin cfg1.N) (ht : t.val = 30) (b : EReal) :
    (∀ y : S8x256.Idx, ((outsAt1 V c t.val t.isLt).2.2.2.2.1 y : EReal) ≤ b) ↔ ∀ j : S6144x7936.Idx, absE (V c main_v0 j) ≤ b := by
  have hN : cfg1.N = 31 := N_1
  constructor
  · intro h j
    have hj0 : (j 0).val < 6144 := (j 0).isLt
    have hj1 : (j 1).val < 7936 := (j 1).isLt
    have hb : (j 1).val / 256 < cfg1.N := by omega
    have := (amax_x_pt V c (ix2 (n0 := 8) (n1 := 256) ⟨(j 0).val % 8, by omega⟩ ⟨(j 1).val % 256, by omega⟩) b t.val
      t.isLt).mp (h _) ⟨(j 1).val / 256, hb⟩ (by show _ / 256 ≤ t.val; omega) ⟨(j 0).val / 8, by omega⟩
    refine le_of_eq_of_le (congrArg (fun i => absE (V c main_v0 i)) ?_) this
    blk_ext [idx1_1]
    show (j 0).val = (j 0).val / 8 * 8 + (j 0).val % 8
    omega
  · intro h y
    refine (amax_x_pt V c y b t.val t.isLt).mpr fun t' _ r => ?_
    blk_simp [iblk1]
    exact h _

/-- The partial maxima of `|x|`: at most `b` all of them when every entry of `x` is. -/
theorem amax_x_arr (c : Dev nD) : ∃ A : S8x256.Idx → EReal, (dat1 V c).arrAt 8 cfg1.N = A ∧
    ∀ b, (∀ y, A y ≤ b) ↔ ∀ j : S6144x7936.Idx, absE (V c main_v0 j) ≤ b := by
  obtain ⟨t, ht⟩ : ∃ t : Fin cfg1.N, t.val = 30 := ⟨⟨30, by decide⟩, rfl⟩
  exact ⟨_, amax_x_last V c t ht, amax_x_le V c t ht⟩

theorem amax_w_last (c : Dev nD) (t : Fin cfg1.N) (ht : t.val = 30) :
    (dat1 V c).arrAt 9 cfg1.N = (outsAt1 V c t.val t.isLt).2.2.2.2.2 := by
  have hw : (cfg1.win 9).WholeAt t := by
    rw [Fin.ext (show t.val = (⟨30, by decide⟩ : Fin cfg1.N).val from ht)]
    decide +kernel
  refine (dat1 V c).arrAt_eq_of_after_last 9 t hw _ fun y => ?_
  blk_simp
  exact congrFun (after1_9 V c t) y

theorem amax_w_le (c : Dev nD) (t : Fin cfg1.N) (ht : t.val = 30) (b : EReal) :
    (∀ y : S8x1280.Idx, ((outsAt1 V c t.val t.isLt).2.2.2.2.2 y : EReal) ≤ b) ↔ ∀ j : S7936x1280.Idx, absE (V c main_arg1 j) ≤ b := by
  have hN : cfg1.N = 31 := N_1
  constructor
  · intro h j
    have hj0 : (j 0).val < 7936 := (j 0).isLt
    have hb : (j 0).val / 256 < cfg1.N := by omega
    have := (amax_w_pt V c (ix2 (n0 := 8) (n1 := 1280) ⟨(j 0).val % 8, by omega⟩ (j 1)) b t.val t.isLt).mp
      (h _) ⟨(j 0).val / 256, hb⟩ (by show _ / 256 ≤ t.val; omega) ⟨(j 0).val % 256 / 8, by omega⟩
    refine le_of_eq_of_le (congrArg (fun i => absE (V c main_arg1 i)) ?_) this
    blk_ext [idx1_2]
  · intro h y
    refine (amax_w_pt V c y b t.val t.isLt).mpr fun t' _ r => ?_
    blk_simp [iblk1]
    exact h _

/-- The partial maxima of `|w|`: at most `b` all of them when every entry of `w` is. -/
theorem amax_w_arr (c : Dev nD) : ∃ A : S8x1280.Idx → EReal, (dat1 V c).arrAt 9 cfg1.N = A ∧
    ∀ b, (∀ y, A y ≤ b) ↔ ∀ j : S7936x1280.Idx, absE (V c main_arg1 j) ≤ b := by
  obtain ⟨t, ht⟩ : ∃ t : Fin cfg1.N, t.val = 30 := ⟨⟨30, by decide⟩, rfl⟩
  exact ⟨_, amax_w_last V c t ht, amax_w_le V c t ht⟩

end Cert.KernelIdeal.Val

end
-- ==== Proof.Value.KernelHost.lean ====
/-
What the host lines of `KernelIdeal` hand to its three regions, and what the regions leave: each operand of a region and
each output array as a function of the arguments.
-/
module

public import proofs.«01_k».proof.Proof.Value.Spec
public import proofs.«01_k».proof.Proof.Value.GradsMaxArr

@[expose] public section

noncomputable section

namespace Cert.KernelIdeal.Val

open Idealize.ShloMosaic Idealize.ShloMosaic.TcCoe Idealize.SL.Sem Idealize.ShloMosaic.StableHlo
open Cert.KernelIdeal Cert.KernelIdeal.Gen Cert.Math

variable (m : (ℓ : Loc nD τ sig) → Buf (Elt Ideal) ℓ) (ρ : Dev nD → PrngReg) (c : Dev nD)

/-- The arguments, at core `c`. -/
abbrev aX : FVec Ideal S6x1024x7936 .bf16 := m ((c : Thread nD τ).loc main_arg0)
@[inherit_doc aX] abbrev aW : FVec Ideal S7936x1280 .f32 := m ((c : Thread nD τ).loc main_arg1)
@[inherit_doc aX] abbrev aD : FVec Ideal S6x1024x1280 .bf16 := m ((c : Thread nD τ).loc main_arg2)
@[inherit_doc aX] abbrev hX : FVec Ideal S16 .f32 := m ((c : Thread nD τ).loc main_arg3)
@[inherit_doc aX] abbrev hW : FVec Ideal S16 .f32 := m ((c : Thread nD τ).loc main_arg4)
@[inherit_doc aX] abbrev hD : FVec Ideal S16 .f32 := m ((c : Thread nD τ).loc main_arg5)

/-! ## Region 0 -/

/-- The token rows of `x` and of `dy`. -/
abbrev rX : S6144x7936.Idx → EReal := shapeCast S6144x7936 (aX m c) shapeCasts_S6x1024x7936_S6144x7936
@[inherit_doc rX] abbrev rD : S6144x1280.Idx → EReal := shapeCast S6144x1280 (aD m c) shapeCasts_S6x1024x1280_S6144x1280

/-- The codes of `dy`, by token rows. -/
def cD : S6144x1280.Idx → EReal := fun j => code5 (rD m c j) (i5 (hD m c))
/-- The codes of `x`, by token rows. -/
def cX : S6144x7936.Idx → EReal := fun j => code4 (rX m c j) (i4 (hX m c))
/-- The codes of `w`. -/
def cW : S7936x1280.Idx → EReal := codesW (aW m c) (i4 (hW m c))

theorem v78_0_W26 : W26 m ρ c main_v78_0 = cD m c := by
  refine (W26_arr m ρ c 2).trans ((codes_dy_arr (V25 m ρ) c).trans ?_)
  funext j
  show code5 (W25 m ρ c main_v1 j) (W25 m ρ c main_v77 (ix1 0)) = _
  rw [v1_W25, v77_W25]
  rfl

theorem v78_1_W26 : ∃ A : S8x1280.Idx → EReal, W26 m ρ c main_v78_1 = A ∧ ∀ b, (∀ y, A y ≤ b) ↔ ∀ j, absE (rD m c j) ≤ b := by
  refine ⟨amaxDy (V25 m ρ) c, (W26_arr m ρ c 3).trans (amax_dy_arr (V25 m ρ) c), fun b => (amax_dy_le (V25 m ρ) c b).trans ?_⟩
  rw [show V25 m ρ c main_v1 = rD m c from v1_W25 m ρ c]

/-! ## Region 1 -/

theorem v85_W27 : (W27 m ρ c main_v85 (ix1 0) : EReal) = i4 (hX m c) ∧ (W27 m ρ c main_v85 (ix1 1) : EReal) = i4 (hW m c)
    ∧ (W27 m ρ c main_v85 (ix1 2) : EReal) = s5 (hD m c) * s4 (hW m c) ∧ (W27 m ρ c main_v85 (ix1 3) : EReal) = s4 (hX m c) * s5 (hD m c) := by
  have h64 : W26 m ρ c main_v64 = invOf (hX m c) 0x3B124925#32 := (W26_of m ρ c main_v64 (by decide +kernel)).trans (v64_W25 m ρ c)
  have h70 : W26 m ρ c main_v70 = invOf (hW m c) 0x3B124925#32 := (W26_of m ρ c main_v70 (by decide +kernel)).trans (v70_W25 m ρ c)
  have h48 : W26 m ρ c main_v48 = scaleOf (hX m c) 0x3B124925#32 := (W26_of m ρ c main_v48 (by decide +kernel)).trans (v48_W25 m ρ c)
  have h53 : W26 m ρ c main_v53 = scaleOf (hW m c) 0x3B124925#32 := (W26_of m ρ c main_v53 (by decide +kernel)).trans (v53_W25 m ρ c)
  have h58 : W26 m ρ c main_v58 = scaleOf (hD m c) 0x37924925#32 := (W26_of m ρ c main_v58 (by decide +kernel)).trans (v58_W25 m ρ c)
  have e81 : (upto hostOps1 (W26 m ρ c) 6 (Proc.devRef .tc main_v81) : FVec Ideal S1 .f32) = broadcastInDim S1 ![] bcast_S_S1 (invOf (hX m c) 0x3B124925#32) := by
    after_reads_simp
    rw [h64]
  have e82 : (upto hostOps1 (W26 m ρ c) 6 (Proc.devRef .tc main_v82) : FVec Ideal S1 .f32) = broadcastInDim S1 ![] bcast_S_S1 (invOf (hW m c) 0x3B124925#32) := by
    after_reads_simp
    rw [h70]
  have e83 : (upto hostOps1 (W26 m ρ c) 6 (Proc.devRef .tc main_v83) : FVec Ideal S1 .f32) = broadcastInDim S1 ![] bcast_S_S1 (mulf (scaleOf (hD m c) 0x37924925#32) (scaleOf (hW m c) 0x3B124925#32)) := by
    after_reads_simp
    rw [h58, h53]
  have e84 : (upto hostOps1 (W26 m ρ c) 6 (Proc.devRef .tc main_v84) : FVec Ideal S1 .f32) = broadcastInDim S1 ![] bcast_S_S1 (mulf (scaleOf (hX m c) 0x3B124925#32) (scaleOf (hD m c) 0x37924925#32)) := by
    after_reads_simp
    rw [h48, h58]
  have h : W27 m ρ c main_v85 = concatenate S4 0 [⟨S1, broadcastInDim S1 ![] bcast_S_S1 (invOf (hX m c) 0x3B124925#32)⟩, ⟨S1, broadcastInDim S1 ![] bcast_S_S1 (invOf (hW m c) 0x3B124925#32)⟩,
      ⟨S1, broadcastInDim S1 ![] bcast_S_S1 (mulf (scaleOf (hD m c) 0x37924925#32) (scaleOf (hW m c) 0x3B124925#32))⟩,
      ⟨S1, broadcastInDim S1 ![] bcast_S_S1 (mulf (scaleOf (hX m c) 0x3B124925#32) (scaleOf (hD m c) 0x37924925#32))⟩] concatenates_S1_S1_S1_S1_S4_d0 := by
    after_reads_simp
    show concatenate S4 0 [⟨S1, (upto hostOps1 (W26 m ρ c) 6 (Proc.devRef .tc main_v81) : FVec Ideal S1 .f32)⟩, ⟨S1, (upto hostOps1 (W26 m ρ c) 6 (Proc.devRef .tc main_v82) : FVec Ideal S1 .f32)⟩, ⟨S1, (upto hostOps1 (W26 m ρ c) 6 (Proc.devRef .tc main_v83) : FVec Ideal S1 .f32)⟩, ⟨S1, (upto hostOps1 (W26 m ρ c) 6 (Proc.devRef .tc main_v84) : FVec Ideal S1 .f32)⟩] concatenates_S1_S1_S1_S1_S4_d0 = _
    rw [e81, e82, e83, e84]
  rw [h]
  refine ⟨?_, ?_, ?_, ?_⟩
  · pointwise; rfl
  · pointwise; rfl
  · pointwise; rfl
  · pointwise; rfl

end Cert.KernelIdeal.Val

end
-- ==== Proof.Value.KernelResults.lean ====
/-
The twelve results of `KernelIdeal`, as functions of the arguments.
-/
module

public import proofs.«01_k».proof.Proof.Value.KernelHost

@[expose] public section

noncomputable section

namespace Cert.KernelIdeal.Val

open Idealize.ShloMosaic Idealize.ShloMosaic.TcCoe Idealize.SL.Sem Idealize.ShloMosaic.StableHlo
open Cert.KernelIdeal Cert.KernelIdeal.Gen Cert.Math

variable (m : (ℓ : Loc nD τ sig) → Buf (Elt Ideal) ℓ) (ρ : Dev nD → PrngReg) (c : Dev nD)

/-! ## Region 1 -/

theorem V27_v0 : V27 m ρ c main_v0 = rX m c :=
  (W27_of m ρ c main_v0 (by decide)).trans ((W26_of m ρ c main_v0 (by decide +kernel)).trans (v0_W25 m ρ c))

theorem V27_arg1 : V27 m ρ c main_arg1 = aW m c := W27_args m ρ c main_arg1 (by decide)

theorem V27_v78_0 : V27 m ρ c main_v78_0 = cD m c := (W27_of m ρ c main_v78_0 (by decide)).trans (v78_0_W26 m ρ c)

theorem v86_0_W28 : W28 m ρ c main_v86_0 = cX m c := by
  refine (W28_arr m ρ c 4).trans ((codes_x_arr (V27 m ρ) c).trans ?_)
  rw [V27_v0, show V27 m ρ c main_v85 (ix1 0) = i4 (hX m c) from (v85_W27 m ρ c).1]
  rfl

theorem v86_1_W28 : W28 m ρ c main_v86_1 = cW m c := by
  refine (W28_arr m ρ c 5).trans ((codes_w_arr (V27 m ρ) c).trans ?_)
  rw [V27_arg1, show V27 m ρ c main_v85 (ix1 1) = i4 (hW m c) from (v85_W27 m ρ c).2.1]
  rfl

theorem v86_2_W28 : W28 m ρ c main_v86_2 = dxOut (cD m c) (aW m c) (i4 (hW m c)) (s5 (hD m c) * s4 (hW m c)) := by
  refine (W28_arr m ρ c 6).trans ((dx_arr (V27 m ρ) c).trans ?_)
  rw [V27_arg1, V27_v78_0, show V27 m ρ c main_v85 (ix1 1) = i4 (hW m c) from (v85_W27 m ρ c).2.1,
    show V27 m ρ c main_v85 (ix1 2) = s5 (hD m c) * s4 (hW m c) from (v85_W27 m ρ c).2.2.1]

theorem v86_3_W28 : W28 m ρ c main_v86_3 = dwOut (rX m c) (cD m c) (i4 (hX m c)) (s4 (hX m c) * s5 (hD m c)) := by
  refine (W28_arr m ρ c 7).trans ((dw_arr (V27 m ρ) c).trans ?_)
  rw [V27_v0, V27_v78_0, show V27 m ρ c main_v85 (ix1 0) = i4 (hX m c) from (v85_W27 m ρ c).1,
    show V27 m ρ c main_v85 (ix1 3) = s4 (hX m c) * s5 (hD m c) from (v85_W27 m ρ c).2.2.2]

theorem v86_4_W28 : ∃ A : S8x256.Idx → EReal, W28 m ρ c main_v86_4 = A ∧ ∀ b, (∀ y, A y ≤ b) ↔ ∀ j, absE (rX m c j) ≤ b := by
  obtain ⟨A, hA, h⟩ := amax_x_arr (V27 m ρ) c
  rw [V27_v0] at h
  exact ⟨A, (W28_arr m ρ c 8).trans hA, h⟩

theorem v86_5_W28 : ∃ A : S8x1280.Idx → EReal, W28 m ρ c main_v86_5 = A ∧ ∀ b, (∀ y, A y ≤ b) ↔ ∀ j, absE (aW m c j) ≤ b := by
  obtain ⟨A, hA, h⟩ := amax_w_arr (V27 m ρ) c
  rw [V27_arg1] at h
  exact ⟨A, (W28_arr m ρ c 9).trans hA, h⟩

/-! ## Region 2 -/

theorem v88_W29 : (V29 m ρ c main_v88 (ix1 0) : EReal) = s4 (hX m c) * s4 (hW m c) := by
  have h48 : W28 m ρ c main_v48 = scaleOf (hX m c) 0x3B124925#32 := (W28_of m ρ c main_v48 (by decide +kernel)).trans
    ((W27_of m ρ c main_v48 (by decide)).trans ((W26_of m ρ c main_v48 (by decide +kernel)).trans (v48_W25 m ρ c)))
  have h53 : W28 m ρ c main_v53 = scaleOf (hW m c) 0x3B124925#32 := (W28_of m ρ c main_v53 (by decide +kernel)).trans
    ((W27_of m ρ c main_v53 (by decide)).trans ((W26_of m ρ c main_v53 (by decide +kernel)).trans (v53_W25 m ρ c)))
  have h : W29 m ρ c main_v88 = shapeCast S1 (mulf (scaleOf (hX m c) 0x3B124925#32) (scaleOf (hW m c) 0x3B124925#32)) shapeCasts_S_S1 := by
    after_reads_simp
    rw [h48, h53]
    rfl
  show W29 m ρ c main_v88 (ix1 0) = _
  rw [h]
  pointwise
  rfl

theorem v89_W30 : W30 m ρ c main_v89 = fwdOut (cX m c) (cW m c) (s4 (hX m c) * s4 (hW m c)) := by
  refine (W30_arr m ρ c 3).trans ((fwd_arr (V29 m ρ) c).trans ?_)
  rw [v88_W29, show V29 m ρ c main_v86_0 = cX m c from (W29_of m ρ c main_v86_0 (by decide)).trans (v86_0_W28 m ρ c),
    show V29 m ρ c main_v86_1 = cW m c from (W29_of m ρ c main_v86_1 (by decide)).trans (v86_1_W28 m ρ c)]

/-- What region 1 leaves in a buffer regions 2 and its host line do not write is there to the last host line. -/
theorem W30_of_W28 (r : Ref sig .tc) (h : ∀ w : Fin cfg2.W, Pipeline.arrRef spec2 w = r → (cfg2.win w).isOut = false) (h' : r ∉ hostOps2_W) :
    W30 m ρ c r = W28 m ρ c r := (W30_of m ρ c r h).trans (W29_of m ρ c r h')

/-- What region 0's entry leaves in a buffer nothing writes later is there to the end. -/
theorem W31_of_W25 (r : Ref sig .tc) (h3 : r ∉ hostOps3_W) (g2 : ∀ w : Fin cfg2.W, Pipeline.arrRef spec2 w = r → (cfg2.win w).isOut = false)
    (h2 : r ∉ hostOps2_W) (g1 : ∀ w : Fin cfg1.W, Pipeline.arrRef spec1 w = r → (cfg1.win w).isOut = false) (h1 : r ∉ hostOps1_W)
    (g0 : ∀ w : Fin cfg0.W, Pipeline.arrRef spec0 w = r → (cfg0.win w).isOut = false) : W31 m ρ c r = W25 m ρ c r :=
  (W31_of m ρ c r h3).trans ((W30_of_W28 m ρ c r g2 h2).trans ((W28_of m ρ c r g1).trans ((W27_of m ρ c r h1).trans (W26_of m ρ c r g0))))

theorem v78_W30 (r : Ref sig .tc) (g2 : ∀ w : Fin cfg2.W, Pipeline.arrRef spec2 w = r → (cfg2.win w).isOut = false)
    (h2 : r ∉ hostOps2_W) (g1 : ∀ w : Fin cfg1.W, Pipeline.arrRef spec1 w = r → (cfg1.win w).isOut = false) (h1 : r ∉ hostOps1_W) :
    W30 m ρ c r = W26 m ρ c r := (W30_of_W28 m ρ c r g2 h2).trans ((W28_of m ρ c r g1).trans (W27_of m ρ c r h1))

/-! ## The results -/

theorem res_scale_x : W31 m ρ c main_v48 = scaleOf (hX m c) 0x3B124925#32 :=
  (W31_of_W25 m ρ c main_v48 (by decide) (by decide +kernel) (by decide) (by decide +kernel) (by decide) (by decide +kernel)).trans (v48_W25 m ρ c)
theorem res_scale_w : W31 m ρ c main_v53 = scaleOf (hW m c) 0x3B124925#32 :=
  (W31_of_W25 m ρ c main_v53 (by decide) (by decide +kernel) (by decide) (by decide +kernel) (by decide) (by decide +kernel)).trans (v53_W25 m ρ c)
theorem res_scale_dy : W31 m ρ c main_v58 = scaleOf (hD m c) 0x37924925#32 :=
  (W31_of_W25 m ρ c main_v58 (by decide) (by decide +kernel) (by decide) (by decide +kernel) (by decide) (by decide +kernel)).trans (v58_W25 m ρ c)

theorem res_codes_w : W31 m ρ c main_v86_1 = codesW (aW m c) (i4 (hW m c)) :=
  (W31_of m ρ c main_v86_1 (by decide)).trans ((W30_of_W28 m ρ c main_v86_1 (by decide +kernel) (by decide)).trans (v86_1_W28 m ρ c))

theorem res_dw : W31 m ρ c main_v86_3 = dwSpec (aX m c) (aD m c) (i4 (hX m c)) (i5 (hD m c)) (s4 (hX m c) * s5 (hD m c)) := by
  refine (W31_of m ρ c main_v86_3 (by decide)).trans ((W30_of_W28 m ρ c main_v86_3 (by decide +kernel) (by decide)).trans ((v86_3_W28 m ρ c).trans ?_))
  funext i
  refine sumMul_congr (fun n => ?_) (fun n => ?_) rfl
  · exact congrArg (code4 · (i4 (hX m c))) (rows_x (aX m c) n (i 0))
  · exact congrArg (code5 · (i5 (hD m c))) (rows_dy (aD m c) n (i 1))

theorem res_y : W31 m ρ c main_v90 = ySpec (aX m c) (aW m c) (i4 (hX m c)) (i4 (hW m c)) (s4 (hX m c) * s4 (hW m c)) := by
  have h : W31 m ρ c main_v90 = shapeCast S6x1024x1280 (W30 m ρ c main_v89 : FVec Ideal S768x8x1280 .bf16) shapeCasts_S768x8x1280_S6x1024x1280 := by
    after_reads_simp
    rfl
  rw [h, v89_W30]
  funext i
  obtain ⟨p, q, hpq, hi⟩ := ungroups_dy (fwdOut (cX m c) (cW m c) (s4 (hX m c) * s4 (hW m c))) i
  refine hi.trans (sumMul_congr (fun k => ?_) (fun k => rfl) rfl)
  show cX m c (ix2 (tokRow p q) k) = _
  rw [hpq]
  exact congrArg (code4 · (i4 (hX m c))) (rows_x' (aX m c) (i 0) (i 1) k)

theorem res_codes_x : W31 m ρ c main_v104 = codesX (aX m c) (i4 (hX m c)) := by
  have h : W31 m ρ c main_v104 = shapeCast S6x1024x7936 (W30 m ρ c main_v86_0 : FVec Ideal S6144x7936 .fp8e4m3) shapeCasts_S6144x7936_S6x1024x7936 := by
    after_reads_simp
    rfl
  rw [h, W30_of_W28 m ρ c main_v86_0 (by decide +kernel) (by decide), v86_0_W28]
  funext i
  exact (unrows_x (cX m c) i).trans ((congrArg (code4 · (i4 (hX m c))) (rows_x' (aX m c) (i 0) (i 1) (i 2))).trans
    (congrArg (codesX (aX m c) (i4 (hX m c))) (ix3_eta i)))

theorem res_codes_dy : W31 m ρ c main_v105 = codesDy (aD m c) (i5 (hD m c)) := by
  have h : W31 m ρ c main_v105 = shapeCast S6x1024x1280 (W30 m ρ c main_v78_0 : FVec Ideal S6144x1280 .fp8e5m2) shapeCasts_S6144x1280_S6x1024x1280 := by
    after_reads_simp
    rfl
  rw [h, v78_W30 m ρ c main_v78_0 (by decide +kernel) (by decide) (by decide +kernel) (by decide), v78_0_W26]
  funext i
  exact (unrows_dy (cD m c) i).trans ((congrArg (code5 · (i5 (hD m c))) (rows_dy' (aD m c) (i 0) (i 1) (i 2))).trans
    (congrArg (codesDy (aD m c) (i5 (hD m c))) (ix3_eta i)))

theorem res_dx : W31 m ρ c main_v91 = dxSpec (aD m c) (aW m c) (i5 (hD m c)) (i4 (hW m c)) (s5 (hD m c) * s4 (hW m c)) := by
  have h : W31 m ρ c main_v91 = shapeCast S6x1024x7936 (W30 m ρ c main_v86_2 : FVec Ideal S768x8x7936 .bf16) shapeCasts_S768x8x7936_S6x1024x7936 := by
    after_reads_simp
    rfl
  rw [h, W30_of_W28 m ρ c main_v86_2 (by decide +kernel) (by decide), v86_2_W28]
  funext i
  obtain ⟨p, q, hpq, hi⟩ := ungroups_x (dxOut (cD m c) (aW m c) (i4 (hW m c)) (s5 (hD m c) * s4 (hW m c))) i
  refine hi.trans (sumMul_congr (fun n => ?_) (fun n => rfl) rfl)
  show cD m c (ix2 (tokRow p q) n) = _
  rw [hpq]
  exact congrArg (code5 · (i5 (hD m c))) (rows_dy' (aD m c) (i 0) (i 1) n)

theorem res_hist_x : ∃ M : FVec Ideal S_ .f32, W31 m ρ c main_v95 = histOf (hX m c) M ∧ IsAmax (aX m c) M := by
  obtain ⟨A, hA, hb⟩ := v86_4_W28 m ρ c
  have hs : (upto hostOps3 (W30 m ρ c) 6 (Proc.devRef .tc main_v92) : FVec Ideal S15 .f32) = extractStridedSlice S15 ![1] (hX m c) slices_S16_S15_1 := by
    after_reads_simp
    rw [W30_args m ρ c main_arg3 (by decide)]
  have hm : (upto hostOps3 (W30 m ρ c) 6 (Proc.devRef .tc main_v94) : FVec Ideal S1 .f32) = (broadcastInDim S1 ![] bcast_S_S1 (Host.reduce FloatOps.maximumf (A : FVec Ideal _ .f32) (constant S_ .f32 0xFF800000#32) reducesTo_S8x256_S_d0_1 h_S_ : FVec Ideal S_ .f32) : FVec Ideal S1 .f32) := by
    after_reads_simp
    rw [W30_of_W28 m ρ c main_v86_4 (by decide +kernel) (by decide), hA]
  have h : W31 m ρ c main_v95 = histOf (hX m c) (Host.reduce FloatOps.maximumf A (constant S_ .f32 0xFF800000#32) reducesTo_S8x256_S_d0_1 h_S_) := by
    after_reads_simp
    show concatenate S16 0 [⟨S15, (upto hostOps3 (W30 m ρ c) 6 (Proc.devRef .tc main_v92) : FVec Ideal S15 .f32)⟩, ⟨S1, (upto hostOps3 (W30 m ρ c) 6 (Proc.devRef .tc main_v94) : FVec Ideal S1 .f32)⟩] concatenates_S15_S1_S16_d0 = _
    rw [hs, hm]
    rfl
  exact ⟨_, h, fun b => (hostMax_le A _ _ _ ix0 (fun i => funext fun a => a.elim0) negInf b).trans ((hb b).trans (abs_rows_x (aX m c) b))⟩

theorem res_hist_w : ∃ M : FVec Ideal S_ .f32, W31 m ρ c main_v99 = histOf (hW m c) M ∧ IsAmax (aW m c) M := by
  obtain ⟨A, hA, hb⟩ := v86_5_W28 m ρ c
  have hs : (upto hostOps3 (W30 m ρ c) 11 (Proc.devRef .tc main_v96) : FVec Ideal S15 .f32) = extractStridedSlice S15 ![1] (hW m c) slices_S16_S15_1 := by
    after_reads_simp
    rw [W30_args m ρ c main_arg4 (by decide)]
  have hm : (upto hostOps3 (W30 m ρ c) 11 (Proc.devRef .tc main_v98) : FVec Ideal S1 .f32) = (broadcastInDim S1 ![] bcast_S_S1 (Host.reduce FloatOps.maximumf (A : FVec Ideal _ .f32) (constant S_ .f32 0xFF800000#32) reducesTo_S8x1280_S_d0_1 h_S_ : FVec Ideal S_ .f32) : FVec Ideal S1 .f32) := by
    after_reads_simp
    rw [W30_of_W28 m ρ c main_v86_5 (by decide +kernel) (by decide), hA]
  have h : W31 m ρ c main_v99 = histOf (hW m c) (Host.reduce FloatOps.maximumf A (constant S_ .f32 0xFF800000#32) reducesTo_S8x1280_S_d0_1 h_S_) := by
    after_reads_simp
    show concatenate S16 0 [⟨S15, (upto hostOps3 (W30 m ρ c) 11 (Proc.devRef .tc main_v96) : FVec Ideal S15 .f32)⟩, ⟨S1, (upto hostOps3 (W30 m ρ c) 11 (Proc.devRef .tc main_v98) : FVec Ideal S1 .f32)⟩] concatenates_S15_S1_S16_d0 = _
    rw [hs, hm]
    rfl
  exact ⟨_, h, fun b => (hostMax_le A _ _ _ ix0 (fun i => funext fun a => a.elim0) negInf b).trans ((hb b).trans (Iff.rfl))⟩

theorem res_hist_dy : ∃ M : FVec Ideal S_ .f32, W31 m ρ c main_v103 = histOf (hD m c) M ∧ IsAmax (aD m c) M := by
  obtain ⟨A, hA, hb⟩ := v78_1_W26 m ρ c
  have hs : (upto hostOps3 (W30 m ρ c) 16 (Proc.devRef .tc main_v100) : FVec Ideal S15 .f32) = extractStridedSlice S15 ![1] (hD m c) slices_S16_S15_1 := by
    after_reads_simp
    rw [W30_args m ρ c main_arg5 (by decide)]
  have hm : (upto hostOps3 (W30 m ρ c) 16 (Proc.devRef .tc main_v102) : FVec Ideal S1 .f32) = (broadcastInDim S1 ![] bcast_S_S1 (Host.reduce FloatOps.maximumf (A : FVec Ideal _ .f32) (constant S_ .f32 0xFF800000#32) reducesTo_S8x1280_S_d0_1 h_S_ : FVec Ideal S_ .f32) : FVec Ideal S1 .f32) := by
    after_reads_simp
    rw [v78_W30 m ρ c main_v78_1 (by decide +kernel) (by decide) (by decide +kernel) (by decide), hA]
  have h : W31 m ρ c main_v103 = histOf (hD m c) (Host.reduce FloatOps.maximumf A (constant S_ .f32 0xFF800000#32) reducesTo_S8x1280_S_d0_1 h_S_) := by
    after_reads_simp
    show concatenate S16 0 [⟨S15, (upto hostOps3 (W30 m ρ c) 16 (Proc.devRef .tc main_v100) : FVec Ideal S15 .f32)⟩, ⟨S1, (upto hostOps3 (W30 m ρ c) 16 (Proc.devRef .tc main_v102) : FVec Ideal S1 .f32)⟩] concatenates_S15_S1_S16_d0 = _
    rw [hs, hm]
    rfl
  exact ⟨_, h, fun b => (hostMax_le A _ _ _ ix0 (fun i => funext fun a => a.elim0) negInf b).trans ((hb b).trans (abs_rows_dy (aD m c) b))⟩

end Cert.KernelIdeal.Val

end
-- ==== Proof.Value.RefHost.lean ====
/-
What the host lines of `ReferenceIdeal` hand to its one call, as functions of the arguments.
-/
module

public import proofs.«01_k».proof.Proof.Value.Spec
public import proofs.«01_k».proof.Proof.Gen.ReferenceIdeal.Frame
public import Idealize.ShloMosaic.Lib.StableHlo.RunRead

@[expose] public section

noncomputable section

namespace Cert.ReferenceIdeal.Val

open Idealize.ShloMosaic Idealize.ShloMosaic.TcCoe Idealize.SL.Sem Idealize.ShloMosaic.StableHlo
open Cert.ReferenceIdeal Cert.ReferenceIdeal.Gen Cert.Math
open Cert.KernelIdeal.Val (scaleOf invOf histOf IsAmax s4 i4 s5 i5)

variable (m : (ℓ : Loc nD τ sig) → Buf (Elt Ideal) ℓ) (c : Dev nD)

/-- The arguments on device `c`: `x`, `w`, `dy` and their three histories. -/
abbrev aX : FVec Ideal S6x1024x7936 .bf16 := m ((c : Thread nD τ).loc main_arg0)
@[inherit_doc aX] abbrev aW : FVec Ideal S7936x1280 .f32 := m ((c : Thread nD τ).loc main_arg1)
@[inherit_doc aX] abbrev aD : FVec Ideal S6x1024x1280 .bf16 := m ((c : Thread nD τ).loc main_arg2)
@[inherit_doc aX] abbrev hX : FVec Ideal S16 .f32 := m ((c : Thread nD τ).loc main_arg3)
@[inherit_doc aX] abbrev hW : FVec Ideal S16 .f32 := m ((c : Thread nD τ).loc main_arg4)
@[inherit_doc aX] abbrev hD : FVec Ideal S16 .f32 := m ((c : Thread nD τ).loc main_arg5)

/-! ## Scales and inverse scales -/

set_option maxHeartbeats 1000000 in
theorem V_v18 : V m c main_v18 = scaleOf (hX m c) 0x3B124925#32 := by
  after_reads_simp
  simp -implicitDefEqProofs only [StableHlo.TRef.toBuf, StableHlo.TRef.ofBuf, cast_cast, cast_eq, id]
  rfl

set_option maxHeartbeats 1000000 in
theorem V_v43 : V m c main_v43 = scaleOf (hW m c) 0x3B124925#32 := by
  after_reads_simp
  simp -implicitDefEqProofs only [StableHlo.TRef.toBuf, StableHlo.TRef.ofBuf, cast_cast, cast_eq, id]
  rfl

set_option maxHeartbeats 1000000 in
theorem V_v68 : V m c main_v68 = scaleOf (hD m c) 0x37924925#32 := by
  after_reads_simp
  simp -implicitDefEqProofs only [StableHlo.TRef.toBuf, StableHlo.TRef.ofBuf, cast_cast, cast_eq, id]
  rfl

/-- The one entry of a number laid out as a 1x1 array. -/
theorem one_entry (M : FVec Ideal S_ .f32) (j : S1x1.Idx) : shapeCast S1x1 M shapeCasts_S_S1x1 j = M ix0 :=
  congrArg M (funext fun a => a.elim0)

set_option maxHeartbeats 2000000 in
theorem V_v92 : V m c main_v92 = shapeCast S1x1 (invOf (hX m c) 0x3B124925#32 : FVec Ideal S_ .f32) shapeCasts_S_S1x1 := by
  after_reads_simp
  simp -implicitDefEqProofs only [StableHlo.TRef.toBuf, StableHlo.TRef.ofBuf, cast_cast, cast_eq, id]
  rfl

theorem V_v92_at (j : S1x1.Idx) : (V m c main_v92 j : EReal) = i4 (hX m c) := by
  rw [V_v92]
  exact one_entry _ j

set_option maxHeartbeats 2000000 in
theorem V_v93 : V m c main_v93 = shapeCast S1x1 (invOf (hW m c) 0x3B124925#32 : FVec Ideal S_ .f32) shapeCasts_S_S1x1 := by
  after_reads_simp
  simp -implicitDefEqProofs only [StableHlo.TRef.toBuf, StableHlo.TRef.ofBuf, cast_cast, cast_eq, id]
  rfl

theorem V_v93_at (j : S1x1.Idx) : (V m c main_v93 j : EReal) = i4 (hW m c) := by
  rw [V_v93]
  exact one_entry _ j

set_option maxHeartbeats 2000000 in
theorem V_v94 : V m c main_v94 = shapeCast S1x1 (invOf (hD m c) 0x37924925#32 : FVec Ideal S_ .f32) shapeCasts_S_S1x1 := by
  after_reads_simp
  simp -implicitDefEqProofs only [StableHlo.TRef.toBuf, StableHlo.TRef.ofBuf, cast_cast, cast_eq, id]
  rfl

theorem V_v94_at (j : S1x1.Idx) : (V m c main_v94 j : EReal) = i5 (hD m c) := by
  rw [V_v94]
  exact one_entry _ j

set_option maxHeartbeats 2000000 in
theorem V_v96 : V m c main_v96 = shapeCast S1x1 (mulf (scaleOf (hX m c) 0x3B124925#32) (scaleOf (hW m c) 0x3B124925#32) : FVec Ideal S_ .f32) shapeCasts_S_S1x1 := by
  after_reads_simp
  simp -implicitDefEqProofs only [StableHlo.TRef.toBuf, StableHlo.TRef.ofBuf, cast_cast, cast_eq, id]
  rfl

theorem V_v96_at (j : S1x1.Idx) : (V m c main_v96 j : EReal) = s4 (hX m c) * s4 (hW m c) := by
  rw [V_v96]
  exact one_entry _ j

set_option maxHeartbeats 2000000 in
theorem V_v98 : V m c main_v98 = shapeCast S1x1 (mulf (scaleOf (hD m c) 0x37924925#32) (scaleOf (hW m c) 0x3B124925#32) : FVec Ideal S_ .f32) shapeCasts_S_S1x1 := by
  after_reads_simp
  simp -implicitDefEqProofs only [StableHlo.TRef.toBuf, StableHlo.TRef.ofBuf, cast_cast, cast_eq, id]
  rfl

theorem V_v98_at (j : S1x1.Idx) : (V m c main_v98 j : EReal) = s5 (hD m c) * s4 (hW m c) := by
  rw [V_v98]
  exact one_entry _ j

set_option maxHeartbeats 2000000 in
theorem V_v100 : V m c main_v100 = shapeCast S1x1 (mulf (scaleOf (hX m c) 0x3B124925#32) (scaleOf (hD m c) 0x37924925#32) : FVec Ideal S_ .f32) shapeCasts_S_S1x1 := by
  after_reads_simp
  simp -implicitDefEqProofs only [StableHlo.TRef.toBuf, StableHlo.TRef.ofBuf, cast_cast, cast_eq, id]
  rfl

theorem V_v100_at (j : S1x1.Idx) : (V m c main_v100 j : EReal) = s4 (hX m c) * s5 (hD m c) := by
  rw [V_v100]
  exact one_entry _ j

/-! ## Histories -/

/-- The bf16 word of `-∞`. -/
theorem negInf16 : (Ideal.ofBits .bf16 0xFF80#16 : EReal) = ⊥ := by
  simp [Ideal.ofBits, Ideal.ieee]

/-- The host's maximum of absolute values, in either format. -/
theorem isAmax_bf16 {s : Shape} {axes : List (Fin s.rank)} (X : FVec Ideal s .bf16) (h : s.ReducesTo axes S_) :
    IsAmax X (extf .f32 (Host.reduce FloatOps.maximumf (Host.absf X : FVec Ideal s .bf16) (constant S_ .bf16 0xFF80#16) h h_S_ : FVec Ideal S_ .bf16) bitsLt_bf16_f32 : FVec Ideal S_ .f32) :=
  fun b => hostMax_le_bf16 (fun i => absE (X i)) (fun _ : S_.Idx => Ideal.ofBits .bf16 0xFF80#16) h h_S_ ix0
    (fun i => funext fun a => a.elim0) negInf16 b

@[inherit_doc isAmax_bf16]
theorem isAmax_f32 {s : Shape} {axes : List (Fin s.rank)} (X : FVec Ideal s .f32) (h : s.ReducesTo axes S_) :
    IsAmax X (Host.reduce FloatOps.maximumf (Host.absf X : FVec Ideal s .f32) (constant S_ .f32 0xFF800000#32) h h_S_ : FVec Ideal S_ .f32) :=
  fun b => hostMax_le (fun i => absE (X i)) (fun _ : S_.Idx => Ideal.ofBits .f32 0xFF800000#32) h h_S_ ix0
    (fun i => funext fun a => a.elim0) negInf b

theorem amax_x : IsAmax (aX m c) (extf .f32 (Host.reduce FloatOps.maximumf (Host.absf (aX m c) : FVec Ideal S6x1024x7936 .bf16) (constant S_ .bf16 0xFF80#16) reducesTo_S6x1024x7936_S_d0_1_2 h_S_ : FVec Ideal S_ .bf16) bitsLt_bf16_f32 : FVec Ideal S_ .f32) :=
  isAmax_bf16 (aX m c) reducesTo_S6x1024x7936_S_d0_1_2

theorem V_v80 : V m c main_v80 = histOf (hX m c) (extf .f32 (Host.reduce FloatOps.maximumf (Host.absf (aX m c) : FVec Ideal S6x1024x7936 .bf16) (constant S_ .bf16 0xFF80#16) reducesTo_S6x1024x7936_S_d0_1_2 h_S_ : FVec Ideal S_ .bf16) bitsLt_bf16_f32 : FVec Ideal S_ .f32) := by
  have hs : (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 147 (Proc.devRef .tc main_v78) : FVec Ideal S15 .f32) = extractStridedSlice S15 ![1] (hX m c) slices_S16_S15_1 := by
    after_reads_simp
  have hm : (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 147 (Proc.devRef .tc main_v79) : FVec Ideal S1 .f32) = (broadcastInDim S1 ![] bcast_S_S1 (extf .f32 (Host.reduce FloatOps.maximumf (Host.absf (aX m c) : FVec Ideal S6x1024x7936 .bf16) (constant S_ .bf16 0xFF80#16) reducesTo_S6x1024x7936_S_d0_1_2 h_S_ : FVec Ideal S_ .bf16) bitsLt_bf16_f32 : FVec Ideal S_ .f32) : FVec Ideal S1 .f32) := by
    after_reads_simp
  after_reads_simp
  show concatenate S16 0 [⟨S15, (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 147 (Proc.devRef .tc main_v78) : FVec Ideal S15 .f32)⟩, ⟨S1, (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 147 (Proc.devRef .tc main_v79) : FVec Ideal S1 .f32)⟩] concatenates_S15_S1_S16_d0 = _
  rw [hs, hm]
  rfl

theorem amax_w : IsAmax (aW m c) (Host.reduce FloatOps.maximumf (Host.absf (aW m c) : FVec Ideal S7936x1280 .f32) (constant S_ .f32 0xFF800000#32) reducesTo_S7936x1280_S_d0_1 h_S_ : FVec Ideal S_ .f32) :=
  isAmax_f32 (aW m c) reducesTo_S7936x1280_S_d0_1

theorem V_v85 : V m c main_v85 = histOf (hW m c) (Host.reduce FloatOps.maximumf (Host.absf (aW m c) : FVec Ideal S7936x1280 .f32) (constant S_ .f32 0xFF800000#32) reducesTo_S7936x1280_S_d0_1 h_S_ : FVec Ideal S_ .f32) := by
  have hs : (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 153 (Proc.devRef .tc main_v83) : FVec Ideal S15 .f32) = extractStridedSlice S15 ![1] (hW m c) slices_S16_S15_1 := by
    after_reads_simp
  have hm : (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 153 (Proc.devRef .tc main_v84) : FVec Ideal S1 .f32) = (broadcastInDim S1 ![] bcast_S_S1 (Host.reduce FloatOps.maximumf (Host.absf (aW m c) : FVec Ideal S7936x1280 .f32) (constant S_ .f32 0xFF800000#32) reducesTo_S7936x1280_S_d0_1 h_S_ : FVec Ideal S_ .f32) : FVec Ideal S1 .f32) := by
    after_reads_simp
  after_reads_simp
  show concatenate S16 0 [⟨S15, (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 153 (Proc.devRef .tc main_v83) : FVec Ideal S15 .f32)⟩, ⟨S1, (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 153 (Proc.devRef .tc main_v84) : FVec Ideal S1 .f32)⟩] concatenates_S15_S1_S16_d0 = _
  rw [hs, hm]
  rfl

theorem amax_dy : IsAmax (aD m c) (extf .f32 (Host.reduce FloatOps.maximumf (Host.absf (aD m c) : FVec Ideal S6x1024x1280 .bf16) (constant S_ .bf16 0xFF80#16) reducesTo_S6x1024x1280_S_d0_1_2 h_S_ : FVec Ideal S_ .bf16) bitsLt_bf16_f32 : FVec Ideal S_ .f32) :=
  isAmax_bf16 (aD m c) reducesTo_S6x1024x1280_S_d0_1_2

theorem V_v91 : V m c main_v91 = histOf (hD m c) (extf .f32 (Host.reduce FloatOps.maximumf (Host.absf (aD m c) : FVec Ideal S6x1024x1280 .bf16) (constant S_ .bf16 0xFF80#16) reducesTo_S6x1024x1280_S_d0_1_2 h_S_ : FVec Ideal S_ .bf16) bitsLt_bf16_f32 : FVec Ideal S_ .f32) := by
  have hs : (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 160 (Proc.devRef .tc main_v89) : FVec Ideal S15 .f32) = extractStridedSlice S15 ![1] (hD m c) slices_S16_S15_1 := by
    after_reads_simp
  have hm : (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 160 (Proc.devRef .tc main_v90) : FVec Ideal S1 .f32) = (broadcastInDim S1 ![] bcast_S_S1 (extf .f32 (Host.reduce FloatOps.maximumf (Host.absf (aD m c) : FVec Ideal S6x1024x1280 .bf16) (constant S_ .bf16 0xFF80#16) reducesTo_S6x1024x1280_S_d0_1_2 h_S_ : FVec Ideal S_ .bf16) bitsLt_bf16_f32 : FVec Ideal S_ .f32) : FVec Ideal S1 .f32) := by
    after_reads_simp
  after_reads_simp
  show concatenate S16 0 [⟨S15, (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 160 (Proc.devRef .tc main_v89) : FVec Ideal S15 .f32)⟩, ⟨S1, (upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) 160 (Proc.devRef .tc main_v90) : FVec Ideal S1 .f32)⟩] concatenates_S15_S1_S16_d0 = _
  rw [hs, hm]
  rfl

end Cert.ReferenceIdeal.Val

end
-- ==== Proof.Value.RefPay.lean ====
/-
The payloads of `ReferenceIdeal`'s one call at an index of the array each is stored to: the codes, and the three
products of codes times a scale.
-/
module

public import proofs.«01_k».proof.Proof.Value.Spec
public import proofs.«01_k».proof.Proof.Gen.ReferenceIdeal.Frame
public import Idealize.ShloMosaic.Lib.Pointwise

@[expose] public section

noncomputable section

namespace Cert.ReferenceIdeal.Val

open Idealize.ShloMosaic Idealize.ShloMosaic.TcCoe Idealize.SL.Sem
open Cert.ReferenceIdeal Cert.ReferenceIdeal.Gen Cert.Math
open Cert.KernelIdeal.Val

/-- The codes of `x` by token rows. -/
theorem pay6 (X : Vec Ideal S6x1024x7936 .bf16) (A : Vec Ideal S1x1 .f32) (n : Fin 6144) (k : Fin 7936) :
    (k0_pay6 X A (ix2 n k) : EReal) = codesX X (A (ix2 0 0)) (ix3 (bOf n) (sOf n) k) := by
  unfold codesX
  pointwise [k0_pay6]
  rfl

/-- The codes of `dy` by token rows. -/
theorem pay8 (D : Vec Ideal S6x1024x1280 .bf16) (A : Vec Ideal S1x1 .f32) (n : Fin 6144) (k : Fin 1280) :
    (k0_pay8 D A (ix2 n k) : EReal) = codesDy D (A (ix2 0 0)) (ix3 (bOf n) (sOf n) k) := by
  unfold codesDy
  pointwise [k0_pay8]
  rfl

theorem pay6' (X : Vec Ideal S6x1024x7936 .bf16) (A : Vec Ideal S1x1 .f32) (b : Fin 6) (s : Fin 1024) (k : Fin 7936) :
    (k0_pay6 X A (ix2 (rowOf b s) k) : EReal) = codesX X (A (ix2 0 0)) (ix3 b s k) := by
  rw [pay6, bOf_rowOf, sOf_rowOf]

theorem pay8' (D : Vec Ideal S6x1024x1280 .bf16) (A : Vec Ideal S1x1 .f32) (b : Fin 6) (s : Fin 1024) (k : Fin 1280) :
    (k0_pay8 D A (ix2 (rowOf b s) k) : EReal) = codesDy D (A (ix2 0 0)) (ix3 b s k) := by
  rw [pay8, bOf_rowOf, sOf_rowOf]

/-- The codes of `w`. -/
theorem pay7 (W : Vec Ideal S7936x1280 .f32) (A : Vec Ideal S1x1 .f32) (j : S7936x1280.Idx) :
    (k0_pay7 W A j : EReal) = codesW W (A (ix2 0 0)) j := by
  unfold codesW
  pointwise [k0_pay7]
  rfl

/-- The stored codes of `x` and of `dy`. -/
theorem pay4_6 (X : Vec Ideal S6x1024x7936 .bf16) (A : Vec Ideal S1x1 .f32) (i : S6x1024x7936.Idx) :
    (k0_pay4 (k0_pay6 X A) i : EReal) = codesX X (A (ix2 0 0)) i := by
  refine (unrows_x (k0_pay6 X A) i).trans ((pay6' X A (i 0) (i 1) (i 2)).trans ?_)
  exact congrArg _ (ix3_eta i)

@[inherit_doc pay4_6]
theorem pay5_8 (D : Vec Ideal S6x1024x1280 .bf16) (A : Vec Ideal S1x1 .f32) (i : S6x1024x1280.Idx) :
    (k0_pay5 (k0_pay8 D A) i : EReal) = codesDy D (A (ix2 0 0)) i := by
  refine (unrows_dy (k0_pay8 D A) i).trans ((pay8' D A (i 0) (i 1) (i 2)).trans ?_)
  exact congrArg _ (ix3_eta i)

/-- `y`, by batch entry. -/
theorem pay1_at (P : FVec Ideal S6144x1280 .f32) (s : Vec Ideal S1x1 .f32) (i : S6x1024x1280.Idx) :
    (k0_pay1 P s i : EReal) = (P (ix2 (rowOf (i 0) (i 1)) (i 2)) : EReal) * s (ix2 0 0) := by
  pointwise [k0_pay1]

/-- `dx`, by batch entry. -/
theorem pay2_at (P : FVec Ideal S6144x7936 .f32) (s : Vec Ideal S1x1 .f32) (i : S6x1024x7936.Idx) :
    (k0_pay2 P s i : EReal) = (P (ix2 (rowOf (i 0) (i 1)) (i 2)) : EReal) * s (ix2 0 0) := by
  pointwise [k0_pay2]

/-- `dw`. -/
theorem pay3_at (P : FVec Ideal S7936x1280 .f32) (s : Vec Ideal S1x1 .f32) (i : S7936x1280.Idx) :
    (k0_pay3 P s i : EReal) = (P i : EReal) * s (ix2 0 0) := by
  pointwise [k0_pay3]

/-- The three products of code arrays. -/
theorem dot_y (a : FVec Ideal S6144x7936 .fp8e4m3) (b : FVec Ideal S7936x1280 .fp8e4m3) (j : S6144x1280.Idx) :
    (matmul dot_S6144x7936_S7936x1280_S6144x1280_1_0_0_1_n_n none a b (constant S6144x1280 .f32 0x00000000#32 : FVec Ideal S6144x1280 .f32) j : EReal)
      = ∑ k : Fin 7936, (a (ix2 (j 0) k) : EReal) * b (ix2 k (j 1)) := by
  pointwise [dot_S6144x7936_S7936x1280_S6144x1280_1_0_0_1_n_n]

@[inherit_doc dot_y]
theorem dot_dx (a : FVec Ideal S6144x1280 .fp8e5m2) (b : FVec Ideal S7936x1280 .fp8e4m3) (j : S6144x7936.Idx) :
    (matmul dot_S6144x1280_S7936x1280_S6144x7936_1_1_0_0_n_n none a b (constant S6144x7936 .f32 0x00000000#32 : FVec Ideal S6144x7936 .f32) j : EReal)
      = ∑ k : Fin 1280, (a (ix2 (j 0) k) : EReal) * b (ix2 (j 1) k) := by
  pointwise [dot_S6144x1280_S7936x1280_S6144x7936_1_1_0_0_n_n]

@[inherit_doc dot_y]
theorem dot_dw (a : FVec Ideal S6144x7936 .fp8e4m3) (b : FVec Ideal S6144x1280 .fp8e5m2) (j : S7936x1280.Idx) :
    (matmul dot_S6144x7936_S6144x1280_S7936x1280_0_0_1_1_n_n none a b (constant S7936x1280 .f32 0x00000000#32 : FVec Ideal S7936x1280 .f32) j : EReal)
      = ∑ k : Fin 6144, (a (ix2 k (j 0)) : EReal) * b (ix2 k (j 1)) := by
  pointwise [dot_S6144x7936_S6144x1280_S7936x1280_0_0_1_1_n_n]

theorem y_at (X : Vec Ideal S6x1024x7936 .bf16) (A : Vec Ideal S1x1 .f32) (W : Vec Ideal S7936x1280 .f32) (B s : Vec Ideal S1x1 .f32)
    (i : S6x1024x1280.Idx) : (k0_pay1 (k0_pay9 X A W B) s i : EReal) = ySpec X W (A (ix2 0 0)) (B (ix2 0 0)) (s (ix2 0 0)) i := by
  rw [pay1_at]
  unfold k0_pay9 ySpec sumMul
  rw [dot_y]
  exact congrArg (· * (s (ix2 0 0) : EReal)) (Finset.sum_congr rfl fun k _ => congrArg₂ (· * ·) (pay6' X A (i 0) (i 1) k) (pay7 W B _))

theorem dx_at (D : Vec Ideal S6x1024x1280 .bf16) (W : Vec Ideal S7936x1280 .f32) (B A s : Vec Ideal S1x1 .f32)
    (i : S6x1024x7936.Idx) : (k0_pay2 (k0_pay10 D W B A) s i : EReal) = dxSpec D W (A (ix2 0 0)) (B (ix2 0 0)) (s (ix2 0 0)) i := by
  rw [pay2_at]
  unfold k0_pay10 dxSpec sumMul
  rw [dot_dx]
  exact congrArg (· * (s (ix2 0 0) : EReal)) (Finset.sum_congr rfl fun k _ => congrArg₂ (· * ·) (pay8' D A (i 0) (i 1) k) (pay7 W B _))

theorem dw_at (X : Vec Ideal S6x1024x7936 .bf16) (D : Vec Ideal S6x1024x1280 .bf16) (A B s : Vec Ideal S1x1 .f32)
    (i : S7936x1280.Idx) : (k0_pay3 (k0_pay11 X D A B) s i : EReal) = dwSpec X D (A (ix2 0 0)) (B (ix2 0 0)) (s (ix2 0 0)) i := by
  rw [pay3_at]
  unfold k0_pay11 dwSpec sumMul
  rw [dot_dw]
  exact congrArg (· * (s (ix2 0 0) : EReal)) (Finset.sum_congr rfl fun k _ => congrArg₂ (· * ·) (pay6 X A _ _) (pay8 D B _ _))

end Cert.ReferenceIdeal.Val

end
-- ==== Proof.Value.RefCall.lean ====
/-
What the six outputs of `ReferenceIdeal`'s one call hold, as functions of the arguments.
-/
module

public import proofs.«01_k».proof.Proof.Value.RefHost
public import proofs.«01_k».proof.Proof.Value.RefPay
public import Idealize.ShloMosaic.Lib.Pipeline.ValueKit
public import Idealize.ShloMosaic.Lib.Pipeline.Value

@[expose] public section

noncomputable section

namespace Cert.ReferenceIdeal.Val

open Idealize.ShloMosaic Idealize.ShloMosaic.TcCoe Idealize.SL.Sem
open Idealize.ShloMosaic.Pipeline (Dat)
open Cert.ReferenceIdeal Cert.ReferenceIdeal.Gen Cert.Math
open Cert.KernelIdeal.Val (ySpec dxSpec dwSpec codesX codesW codesDy s4 i4 s5 i5)

variable (m : (ℓ : Loc nD τ sig) → Buf (Elt Ideal) ℓ) (c : Dev nD)

/-! ## Every window is its whole array -/

theorem idx0_0 : ∀ t : Fin cfg0.N, win0_0.index t = ![0, 0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0, 0] := (by decide +kernel : ∀ t : Fin grid0.N, _)
theorem idx0_10 : ∀ t : Fin cfg0.N, win0_10.index t = ![0, 0, 0] := (by decide +kernel : ∀ t : Fin grid0.N, _)
theorem idx0_11 : ∀ t : Fin cfg0.N, win0_11.index t = ![0, 0] := (by decide +kernel : ∀ t : Fin grid0.N, _)
theorem idx0_12 : ∀ t : Fin cfg0.N, win0_12.index t = ![0, 0, 0] := (by decide +kernel : ∀ t : Fin grid0.N, _)
theorem idx0_13 : ∀ t : Fin cfg0.N, win0_13.index t = ![0, 0] := (by decide +kernel : ∀ t : Fin grid0.N, _)
theorem idx0_14 : ∀ t : Fin cfg0.N, win0_14.index t = ![0, 0, 0] := (by decide +kernel : ∀ t : Fin grid0.N, _)

theorem iblk_0 (t : Fin cfg0.N) : iblk m c 0 t = V m c main_arg0 := by
  funext y
  blk_simp [iblk, idx0_0]
  refine congrArg (V m c main_arg0) ?_
  blk_ext [idx0_0]

theorem iblk_1 (t : Fin cfg0.N) : iblk m c 1 t = V m c main_arg1 := by
  funext y
  blk_simp [iblk, idx0_1]
  refine congrArg (V m c main_arg1) ?_
  blk_ext [idx0_1]

theorem iblk_2 (t : Fin cfg0.N) : iblk m c 2 t = V m c main_arg2 := by
  funext y
  blk_simp [iblk, idx0_2]
  refine congrArg (V m c main_arg2) ?_
  blk_ext [idx0_2]

theorem iblk_3 (t : Fin cfg0.N) : iblk m c 3 t = V m c main_v92 := by
  funext y
  blk_simp [iblk, idx0_3]
  refine congrArg (V m c main_v92) ?_
  blk_ext [idx0_3]

theorem iblk_4 (t : Fin cfg0.N) : iblk m c 4 t = V m c main_v93 := by
  funext y
  blk_simp [iblk, idx0_4]
  refine congrArg (V m c main_v93) ?_
  blk_ext [idx0_4]

theorem iblk_5 (t : Fin cfg0.N) : iblk m c 5 t = V m c main_v94 := by
  funext y
  blk_simp [iblk, idx0_5]
  refine congrArg (V m c main_v94) ?_
  blk_ext [idx0_5]

theorem iblk_6 (t : Fin cfg0.N) : iblk m c 6 t = V m c main_v96 := by
  funext y
  blk_simp [iblk, idx0_6]
  refine congrArg (V m c main_v96) ?_
  blk_ext [idx0_6]

theorem iblk_7 (t : Fin cfg0.N) : iblk m c 7 t = V m c main_v98 := by
  funext y
  blk_simp [iblk, idx0_7]
  refine congrArg (V m c main_v98) ?_
  blk_ext [idx0_7]

theorem iblk_8 (t : Fin cfg0.N) : iblk m c 8 t = V m c main_v100 := by
  funext y
  blk_simp [iblk, idx0_8]
  refine congrArg (V m c main_v100) ?_
  blk_ext [idx0_8]

/-! ## The outputs -/

theorem y_arr : (dats m 0 c).arrAt 9 cfg0.N = ySpec (aX m c) (aW m c) (i4 (hX m c)) (i4 (hW m c)) (s4 (hX m c) * s4 (hW m c)) := by
  refine (dats m 0 c).arrAt_eq_of_covers 9 _ (by decide +kernel) fun t hf y => ?_
  blk_simp
  rw [after0_9]
  unfold out0_9
  frame_out
  rw [iblk_0, iblk_3, iblk_1, iblk_4, iblk_6]
  refine (y_at _ _ _ _ _ y).trans ?_
  rw [V_main_arg0, V_main_arg1, V_v92_at, V_v93_at, V_v96_at]
  refine congrArg (ySpec (aX m c) (aW m c) (i4 (hX m c)) (i4 (hW m c)) (s4 (hX m c) * s4 (hW m c))) ?_
  blk_ext [idx0_9]

theorem dx_arr : (dats m 0 c).arrAt 10 cfg0.N = dxSpec (aD m c) (aW m c) (i5 (hD m c)) (i4 (hW m c)) (s5 (hD m c) * s4 (hW m c)) := by
  refine (dats m 0 c).arrAt_eq_of_covers 10 _ (by decide +kernel) fun t hf y => ?_
  blk_simp
  rw [after0_10]
  unfold out0_10
  frame_out
  rw [iblk_2, iblk_1, iblk_4, iblk_5, iblk_7]
  refine (dx_at _ _ _ _ _ y).trans ?_
  rw [V_main_arg2, V_main_arg1, V_v93_at, V_v94_at, V_v98_at]
  refine congrArg (dxSpec (aD m c) (aW m c) (i5 (hD m c)) (i4 (hW m c)) (s5 (hD m c) * s4 (hW m c))) ?_
  blk_ext [idx0_10]

theorem dw_arr : (dats m 0 c).arrAt 11 cfg0.N = dwSpec (aX m c) (aD m c) (i4 (hX m c)) (i5 (hD m c)) (s4 (hX m c) * s5 (hD m c)) := by
  refine (dats m 0 c).arrAt_eq_of_covers 11 _ (by decide +kernel) fun t hf y => ?_
  blk_simp
  rw [after0_11]
  unfold out0_11
  frame_out
  rw [iblk_0, iblk_2, iblk_3, iblk_5, iblk_8]
  refine (dw_at _ _ _ _ _ y).trans ?_
  rw [V_main_arg0, V_main_arg2, V_v92_at, V_v94_at, V_v100_at]
  refine congrArg (dwSpec (aX m c) (aD m c) (i4 (hX m c)) (i5 (hD m c)) (s4 (hX m c) * s5 (hD m c))) ?_
  blk_ext [idx0_11]

theorem codes_x_arr : (dats m 0 c).arrAt 12 cfg0.N = codesX (aX m c) (i4 (hX m c)) := by
  refine (dats m 0 c).arrAt_eq_of_covers 12 _ (by decide +kernel) fun t hf y => ?_
  blk_simp
  rw [after0_12]
  unfold out0_12
  frame_out
  rw [iblk_0, iblk_3]
  refine (pay4_6 _ _ y).trans ?_
  rw [V_main_arg0, V_v92_at]
  refine congrArg (codesX (aX m c) (i4 (hX m c))) ?_
  blk_ext [idx0_12]

theorem codes_w_arr : (dats m 0 c).arrAt 13 cfg0.N = codesW (aW m c) (i4 (hW m c)) := by
  refine (dats m 0 c).arrAt_eq_of_covers 13 _ (by decide +kernel) fun t hf y => ?_
  blk_simp
  rw [after0_13]
  unfold out0_13
  frame_out
  rw [iblk_1, iblk_4]
  refine (pay7 _ _ y).trans ?_
  rw [V_main_arg1, V_v93_at]
  refine congrArg (codesW (aW m c) (i4 (hW m c))) ?_
  blk_ext [idx0_13]

theorem codes_dy_arr : (dats m 0 c).arrAt 14 cfg0.N = codesDy (aD m c) (i5 (hD m c)) := by
  refine (dats m 0 c).arrAt_eq_of_covers 14 _ (by decide +kernel) fun t hf y => ?_
  blk_simp
  rw [after0_14]
  unfold out0_14
  frame_out
  rw [iblk_2, iblk_5]
  refine (pay5_8 _ _ y).trans ?_
  rw [V_main_arg2, V_v94_at]
  refine congrArg (codesDy (aD m c) (i5 (hD m c))) ?_
  blk_ext [idx0_14]

end Cert.ReferenceIdeal.Val

end
-- ==== Proof.Value.Agree.lean ====
/-
The kernel and the reference, from memories that agree on the six arguments, leave the same twelve results.
-/
module

public import proofs.«01_k».proof.Defs
public import proofs.«01_k».proof.Proof.Value.KernelResults
public import proofs.«01_k».proof.Proof.Value.RefCall
public import proofs.«01_k».proof.Proof.KernelIdealFrame

@[expose] public section

noncomputable section

namespace Cert.Val

open Idealize.ShloMosaic Idealize.ShloMosaic.TcCoe Idealize.SL.Sem
open Cert.KernelIdeal.Val (histOf IsAmax)

/-- A memory of the kernel, and one of the reference. -/
abbrev KMem := (ℓ : Loc Cert.KernelIdeal.nD Cert.KernelIdeal.τ Cert.KernelIdeal.sig) → Buf (Elt Ideal) ℓ
@[inherit_doc KMem] abbrev RMem := (ℓ : Loc Cert.ReferenceIdeal.nD Cert.ReferenceIdeal.τ Cert.ReferenceIdeal.sig) → Buf (Elt Ideal) ℓ

/-- The two memories hold the same six arguments on device `c`. -/
structure Agree (m : KMem) (m' : RMem) (c : Dev Cert.KernelIdeal.nD) : Prop where
  aX : Cert.ReferenceIdeal.Val.aX m' c = Cert.KernelIdeal.Val.aX m c
  aW : Cert.ReferenceIdeal.Val.aW m' c = Cert.KernelIdeal.Val.aW m c
  aD : Cert.ReferenceIdeal.Val.aD m' c = Cert.KernelIdeal.Val.aD m c
  hX : Cert.ReferenceIdeal.Val.hX m' c = Cert.KernelIdeal.Val.hX m c
  hW : Cert.ReferenceIdeal.Val.hW m' c = Cert.KernelIdeal.Val.hW m c
  hD : Cert.ReferenceIdeal.Val.hD m' c = Cert.KernelIdeal.Val.hD m c

variable {m : KMem} (g : Dev Cert.KernelIdeal.nD → PrngReg) {m' : RMem} {c : Dev Cert.KernelIdeal.nD}

/-- Two histories with a largest absolute value behind them are equal. -/
theorem hist_eq {s : Shape} {X : s.Idx → EReal} {h A B : FVec Ideal Cert.KernelIdeal.S16 .f32}
    (ha : ∃ M : FVec Ideal Cert.KernelIdeal.S_ .f32, A = histOf h M ∧ IsAmax X M)
    (hb : ∃ M : FVec Ideal Cert.KernelIdeal.S_ .f32, B = histOf h M ∧ IsAmax X M) : A = B := by
  obtain ⟨M, rfl, hM⟩ := ha
  obtain ⟨M', rfl, hM'⟩ := hb
  rw [hM.unique hM']

theorem eq_y (h : Agree m m' c) : (Cert.ReferenceIdeal.Gen.dats m' 0 c).arrAt 9 Cert.ReferenceIdeal.cfg0.N = Cert.KernelIdeal.Gen.W31 m g c Cert.KernelIdeal.main_v90 := by
  refine (Cert.ReferenceIdeal.Val.y_arr m' c).trans ?_
  rw [h.aX, h.aW, h.hX, h.hW]
  exact (Cert.KernelIdeal.Val.res_y m g c).symm

theorem eq_dx (h : Agree m m' c) : (Cert.ReferenceIdeal.Gen.dats m' 0 c).arrAt 10 Cert.ReferenceIdeal.cfg0.N = Cert.KernelIdeal.Gen.W31 m g c Cert.KernelIdeal.main_v91 := by
  refine (Cert.ReferenceIdeal.Val.dx_arr m' c).trans ?_
  rw [h.aD, h.aW, h.hD, h.hW]
  exact (Cert.KernelIdeal.Val.res_dx m g c).symm

theorem eq_dw (h : Agree m m' c) : (Cert.ReferenceIdeal.Gen.dats m' 0 c).arrAt 11 Cert.ReferenceIdeal.cfg0.N = Cert.KernelIdeal.Gen.W31 m g c Cert.KernelIdeal.main_v86_3 := by
  refine (Cert.ReferenceIdeal.Val.dw_arr m' c).trans ?_
  rw [h.aX, h.aD, h.hX, h.hD]
  exact (Cert.KernelIdeal.Val.res_dw m g c).symm

theorem eq_hist_x (h : Agree m m' c) : Cert.ReferenceIdeal.Gen.V m' c Cert.ReferenceIdeal.main_v80 = Cert.KernelIdeal.Gen.W31 m g c Cert.KernelIdeal.main_v95 := by
  have e := (⟨_, Cert.ReferenceIdeal.Val.V_v80 m' c, Cert.ReferenceIdeal.Val.amax_x m' c⟩ : ∃ M : FVec Ideal Cert.KernelIdeal.S_ .f32, Cert.ReferenceIdeal.Gen.V m' c Cert.ReferenceIdeal.main_v80 = histOf (Cert.ReferenceIdeal.Val.hX m' c) M ∧ IsAmax (Cert.ReferenceIdeal.Val.aX m' c) M)
  rw [h.hX, h.aX] at e
  exact hist_eq e (Cert.KernelIdeal.Val.res_hist_x m g c)

theorem eq_hist_w (h : Agree m m' c) : Cert.ReferenceIdeal.Gen.V m' c Cert.ReferenceIdeal.main_v85 = Cert.KernelIdeal.Gen.W31 m g c Cert.KernelIdeal.main_v99 := by
  have e := (⟨_, Cert.ReferenceIdeal.Val.V_v85 m' c, Cert.ReferenceIdeal.Val.amax_w m' c⟩ : ∃ M : FVec Ideal Cert.KernelIdeal.S_ .f32, Cert.ReferenceIdeal.Gen.V m' c Cert.ReferenceIdeal.main_v85 = histOf (Cert.ReferenceIdeal.Val.hW m' c) M ∧ IsAmax (Cert.ReferenceIdeal.Val.aW m' c) M)
  rw [h.hW, h.aW] at e
  exact hist_eq e (Cert.KernelIdeal.Val.res_hist_w m g c)

theorem eq_hist_dy (h : Agree m m' c) : Cert.ReferenceIdeal.Gen.V m' c Cert.ReferenceIdeal.main_v91 = Cert.KernelIdeal.Gen.W31 m g c Cert.KernelIdeal.main_v103 := by
  have e := (⟨_, Cert.ReferenceIdeal.Val.V_v91 m' c, Cert.ReferenceIdeal.Val.amax_dy m' c⟩ : ∃ M : FVec Ideal Cert.KernelIdeal.S_ .f32, Cert.ReferenceIdeal.Gen.V m' c Cert.ReferenceIdeal.main_v91 = histOf (Cert.ReferenceIdeal.Val.hD m' c) M ∧ IsAmax (Cert.ReferenceIdeal.Val.aD m' c) M)
  rw [h.hD, h.aD] at e
  exact hist_eq e (Cert.KernelIdeal.Val.res_hist_dy m g c)

theorem eq_codes_x (h : Agree m m' c) : (Cert.ReferenceIdeal.Gen.dats m' 0 c).arrAt 12 Cert.ReferenceIdeal.cfg0.N = Cert.KernelIdeal.Gen.W31 m g c Cert.KernelIdeal.main_v104 := by
  refine (Cert.ReferenceIdeal.Val.codes_x_arr m' c).trans ?_
  rw [h.aX, h.hX]
  exact (Cert.KernelIdeal.Val.res_codes_x m g c).symm

theorem eq_scale_x (h : Agree m m' c) : Cert.ReferenceIdeal.Gen.V m' c Cert.ReferenceIdeal.main_v18 = Cert.KernelIdeal.Gen.W31 m g c Cert.KernelIdeal.main_v48 := by
  refine (Cert.ReferenceIdeal.Val.V_v18 m' c).trans ?_
  rw [h.hX]
  exact (Cert.KernelIdeal.Val.res_scale_x m g c).symm

theorem eq_codes_w (h : Agree m m' c) : (Cert.ReferenceIdeal.Gen.dats m' 0 c).arrAt 13 Cert.ReferenceIdeal.cfg0.N = Cert.KernelIdeal.Gen.W31 m g c Cert.KernelIdeal.main_v86_1 := by
  refine (Cert.ReferenceIdeal.Val.codes_w_arr m' c).trans ?_
  rw [h.aW, h.hW]
  exact (Cert.KernelIdeal.Val.res_codes_w m g c).symm

theorem eq_scale_w (h : Agree m m' c) : Cert.ReferenceIdeal.Gen.V m' c Cert.ReferenceIdeal.main_v43 = Cert.KernelIdeal.Gen.W31 m g c Cert.KernelIdeal.main_v53 := by
  refine (Cert.ReferenceIdeal.Val.V_v43 m' c).trans ?_
  rw [h.hW]
  exact (Cert.KernelIdeal.Val.res_scale_w m g c).symm

theorem eq_codes_dy (h : Agree m m' c) : (Cert.ReferenceIdeal.Gen.dats m' 0 c).arrAt 14 Cert.ReferenceIdeal.cfg0.N = Cert.KernelIdeal.Gen.W31 m g c Cert.KernelIdeal.main_v105 := by
  refine (Cert.ReferenceIdeal.Val.codes_dy_arr m' c).trans ?_
  rw [h.aD, h.hD]
  exact (Cert.KernelIdeal.Val.res_codes_dy m g c).symm

theorem eq_scale_dy (h : Agree m m' c) : Cert.ReferenceIdeal.Gen.V m' c Cert.ReferenceIdeal.main_v68 = Cert.KernelIdeal.Gen.W31 m g c Cert.KernelIdeal.main_v58 := by
  refine (Cert.ReferenceIdeal.Val.V_v68 m' c).trans ?_
  rw [h.hD]
  exact (Cert.KernelIdeal.Val.res_scale_dy m g c).symm

/-- The value claim: the witnesses are what the kernel leaves. -/
theorem algebraic : @Cert.algebraic_KernelIdeal_ReferenceIdeal Cert.KernelIdeal.Gen.facts Cert.ReferenceIdeal.Gen.facts := by
  intro m g m' g' _ hagree
  have H : ∀ c, Agree m m' c := fun c => ⟨(hagree c).1, (hagree c).2.1, (hagree c).2.2.1, (hagree c).2.2.2.1, (hagree c).2.2.2.2.1, (hagree c).2.2.2.2.2⟩
  refine ⟨fun c => Cert.KernelIdeal.Gen.W31 m g c Cert.KernelIdeal.main_v90, fun c => Cert.KernelIdeal.Gen.W31 m g c Cert.KernelIdeal.main_v91, fun c => Cert.KernelIdeal.Gen.W31 m g c Cert.KernelIdeal.main_v86_3, fun c => Cert.KernelIdeal.Gen.W31 m g c Cert.KernelIdeal.main_v95, fun c => Cert.KernelIdeal.Gen.W31 m g c Cert.KernelIdeal.main_v99, fun c => Cert.KernelIdeal.Gen.W31 m g c Cert.KernelIdeal.main_v103, fun c => Cert.KernelIdeal.Gen.W31 m g c Cert.KernelIdeal.main_v104, fun c => Cert.KernelIdeal.Gen.W31 m g c Cert.KernelIdeal.main_v48, fun c => Cert.KernelIdeal.Gen.W31 m g c Cert.KernelIdeal.main_v86_1, fun c => Cert.KernelIdeal.Gen.W31 m g c Cert.KernelIdeal.main_v53, fun c => Cert.KernelIdeal.Gen.W31 m g c Cert.KernelIdeal.main_v105, fun c => Cert.KernelIdeal.Gen.W31 m g c Cert.KernelIdeal.main_v58, ?_, ?_⟩
  · refine (θ_run _ _ _).mono (fun r h c => ?_) (Cert.KernelIdeal.Gen.run_all m g)
    exact ⟨h.1 c _ (Cert.KernelIdeal.Gen.mem_uc Cert.KernelIdeal.main_v90 (by decide)),
      h.1 c _ (Cert.KernelIdeal.Gen.mem_uc Cert.KernelIdeal.main_v91 (by decide)),
      h.1 c _ (Cert.KernelIdeal.Gen.mem_uc Cert.KernelIdeal.main_v86_3 (by decide)),
      h.1 c _ (Cert.KernelIdeal.Gen.mem_uc Cert.KernelIdeal.main_v95 (by decide)),
      h.1 c _ (Cert.KernelIdeal.Gen.mem_uc Cert.KernelIdeal.main_v99 (by decide)),
      h.1 c _ (Cert.KernelIdeal.Gen.mem_uc Cert.KernelIdeal.main_v103 (by decide)),
      h.1 c _ (Cert.KernelIdeal.Gen.mem_uc Cert.KernelIdeal.main_v104 (by decide)),
      h.1 c _ (Cert.KernelIdeal.Gen.mem_uc Cert.KernelIdeal.main_v48 (by decide)),
      h.1 c _ (Cert.KernelIdeal.Gen.mem_uc Cert.KernelIdeal.main_v86_1 (by decide)),
      h.1 c _ (Cert.KernelIdeal.Gen.mem_uc Cert.KernelIdeal.main_v53 (by decide)),
      h.1 c _ (Cert.KernelIdeal.Gen.mem_uc Cert.KernelIdeal.main_v105 (by decide)),
      h.1 c _ (Cert.KernelIdeal.Gen.mem_uc Cert.KernelIdeal.main_v58 (by decide)),
      (h.1 c _ (Cert.KernelIdeal.Gen.mem_uc Cert.KernelIdeal.main_arg0 (by decide))).trans (Cert.KernelIdeal.Gen.W31_main_arg0 m g c),
      (h.1 c _ (Cert.KernelIdeal.Gen.mem_uc Cert.KernelIdeal.main_arg1 (by decide))).trans (Cert.KernelIdeal.Gen.W31_main_arg1 m g c),
      (h.1 c _ (Cert.KernelIdeal.Gen.mem_uc Cert.KernelIdeal.main_arg2 (by decide))).trans (Cert.KernelIdeal.Gen.W31_main_arg2 m g c),
      (h.1 c _ (Cert.KernelIdeal.Gen.mem_uc Cert.KernelIdeal.main_arg3 (by decide))).trans (Cert.KernelIdeal.Gen.W31_main_arg3 m g c),
      (h.1 c _ (Cert.KernelIdeal.Gen.mem_uc Cert.KernelIdeal.main_arg4 (by decide))).trans (Cert.KernelIdeal.Gen.W31_main_arg4 m g c),
      (h.1 c _ (Cert.KernelIdeal.Gen.mem_uc Cert.KernelIdeal.main_arg5 (by decide))).trans (Cert.KernelIdeal.Gen.W31_main_arg5 m g c)⟩
  · refine (θ_run _ _ _).mono (fun r h c => ?_) (Cert.ReferenceIdeal.Gen.run_main m' g')
    exact ⟨((h c).1 9).trans (eq_y g (H c)),
      ((h c).1 10).trans (eq_dx g (H c)),
      ((h c).1 11).trans (eq_dw g (H c)),
      ((h c).2 Cert.ReferenceIdeal.main_v80 (Pipeline.mem_restRefs_of _ (by decide) (by decide))).trans (eq_hist_x g (H c)),
      ((h c).2 Cert.ReferenceIdeal.main_v85 (Pipeline.mem_restRefs_of _ (by decide) (by decide))).trans (eq_hist_w g (H c)),
      ((h c).2 Cert.ReferenceIdeal.main_v91 (Pipeline.mem_restRefs_of _ (by decide) (by decide))).trans (eq_hist_dy g (H c)),
      ((h c).1 12).trans (eq_codes_x g (H c)),
      ((h c).2 Cert.ReferenceIdeal.main_v18 (Pipeline.mem_restRefs_of _ (by decide) (by decide))).trans (eq_scale_x g (H c)),
      ((h c).1 13).trans (eq_codes_w g (H c)),
      ((h c).2 Cert.ReferenceIdeal.main_v43 (Pipeline.mem_restRefs_of _ (by decide) (by decide))).trans (eq_scale_w g (H c)),
      ((h c).1 14).trans (eq_codes_dy g (H c)),
      ((h c).2 Cert.ReferenceIdeal.main_v68 (Pipeline.mem_restRefs_of _ (by decide) (by decide))).trans (eq_scale_dy g (H c)),
      ((h c).1 0).trans (((Cert.ReferenceIdeal.Gen.dats m' 0 c).arrAt_in 0 rfl _).trans ((Cert.ReferenceIdeal.Gen.A_eq m' c 0).trans (Cert.ReferenceIdeal.Gen.V_main_arg0 m' c))),
      ((h c).1 1).trans (((Cert.ReferenceIdeal.Gen.dats m' 0 c).arrAt_in 1 rfl _).trans ((Cert.ReferenceIdeal.Gen.A_eq m' c 1).trans (Cert.ReferenceIdeal.Gen.V_main_arg1 m' c))),
      ((h c).1 2).trans (((Cert.ReferenceIdeal.Gen.dats m' 0 c).arrAt_in 2 rfl _).trans ((Cert.ReferenceIdeal.Gen.A_eq m' c 2).trans (Cert.ReferenceIdeal.Gen.V_main_arg2 m' c))),
      ((h c).2 Cert.ReferenceIdeal.main_arg3 (Pipeline.mem_restRefs_of _ (by decide) (by decide))).trans (Cert.ReferenceIdeal.Gen.V_main_arg3 m' c),
      ((h c).2 Cert.ReferenceIdeal.main_arg4 (Pipeline.mem_restRefs_of _ (by decide) (by decide))).trans (Cert.ReferenceIdeal.Gen.V_main_arg4 m' c),
      ((h c).2 Cert.ReferenceIdeal.main_arg5 (Pipeline.mem_restRefs_of _ (by decide) (by decide))).trans (Cert.ReferenceIdeal.Gen.V_main_arg5 m' c)⟩

end Cert.Val

end
-- ==== Proof.lean ====
/-
The proof of the certificate's claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Value.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Val.algebraic⟩

end Cert.Proof

end
